-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S512x1024 : Shape := ⟨2, ![512, 1024]⟩
abbrev S32x16x1024 : Shape := ⟨3, ![32, 16, 1024]⟩
abbrev S16x1024 : Shape := ⟨2, ![16, 1024]⟩
abbrev S31 : Shape := ⟨1, ![31]⟩
abbrev S32 : Shape := ⟨1, ![32]⟩
abbrev S_ : Shape := ⟨0, ![]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x16x1024 : Shape := ⟨3, ![1, 16, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x512x1024, .f32⟩
  | .local _ .vmem, ⟨6, _⟩ => ⟨S512x1024, .bf16⟩
  | .local _ .vmem, ⟨7, _⟩ => ⟨S32x16x1024, .bf16⟩
  | .local _ .vmem, ⟨8, _⟩ => ⟨S32x16x1024, .bf16⟩
  | .local _ .vmem, ⟨9, _⟩ => ⟨S16x1024, .bf16⟩
  | _, _ => ⟨S1x512x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_346 : BitVec 32 := 0#32
  let c0_i32_347 : BitVec 32 := 0#32
  ![v2.toNat, 0, 0]
def k0_off3 (d0 : Dev nD) (c1_i32_335 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v578 : BitVec 32 := Scalar.addi v2 c1_i32_335
  let c32_i32_336 : BitVec 32 := 32#32
  let c0_i32_337 : BitVec 32 := 0#32
  let v579 : BitVec 1 := Scalar.cmpi .eq c32_i32_336 c0_i32_337
  let c1_i32_338 : BitVec 32 := 1#32
  let v580 : BitVec 32 := Scalar.select v579 c1_i32_338 c32_i32_336
  let v581 : BitVec 32 := Scalar.remsi v578 v580
  let c0_i32_340 : BitVec 32 := 0#32
  let v583 : BitVec 1 := Scalar.cmpi .slt v581 c0_i32_340
  let c0_i32_341 : BitVec 32 := 0#32
  let v584 : BitVec 1 := Scalar.cmpi .slt v580 c0_i32_341
  let v585 : BitVec 1 := Scalar.xori v583 v584
  let c0_i32_339 : BitVec 32 := 0#32
  let v582 : BitVec 1 := Scalar.cmpi .ne v581 c0_i32_339
  let v586 : BitVec 1 := Scalar.andi v585 v582
  let v587 : BitVec 32 := Scalar.addi v581 v580
  let v588 : BitVec 32 := Scalar.select v586 v587 v581
  let c16_i32_342 : BitVec 32 := 16#32
  let v589 : BitVec 32 := Scalar.muli v588 c16_i32_342
  let c0_i32_348 : BitVec 32 := 0#32
  ![v589.toNat, 0]
def k0_dev32 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_335 : BitVec 32 := 1#32
  let v578 : BitVec 32 := Scalar.addi v2 c1_i32_335
  let c32_i32_336 : BitVec 32 := 32#32
  let c0_i32_337 : BitVec 32 := 0#32
  let v579 : BitVec 1 := Scalar.cmpi .eq c32_i32_336 c0_i32_337
  let c1_i32_338 : BitVec 32 := 1#32
  let v580 : BitVec 32 := Scalar.select v579 c1_i32_338 c32_i32_336
  let v581 : BitVec 32 := Scalar.remsi v578 v580
  let c0_i32_340 : BitVec 32 := 0#32
  let v583 : BitVec 1 := Scalar.cmpi .slt v581 c0_i32_340
  let c0_i32_341 : BitVec 32 := 0#32
  let v584 : BitVec 1 := Scalar.cmpi .slt v580 c0_i32_341
  let v585 : BitVec 1 := Scalar.xori v583 v584
  let c0_i32_339 : BitVec 32 := 0#32
  let v582 : BitVec 1 := Scalar.cmpi .ne v581 c0_i32_339
  let v586 : BitVec 1 := Scalar.andi v585 v582
  let v587 : BitVec 32 := Scalar.addi v581 v580
  let v588 : BitVec 32 := Scalar.select v586 v587 v581
  let c1_i32_344 : BitVec 32 := 1#32
  let v590 : BitVec 32 := Scalar.muli v588 c1_i32_344
  let v591 : BitVec 32 := Scalar.addi c0_i32_345 v590
  v591.toNat
def k0_dev33 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_349 : BitVec 32 := 2#32
  let v599 : BitVec 32 := Scalar.addi v2 c2_i32_349
  let c32_i32_350 : BitVec 32 := 32#32
  let c0_i32_351 : BitVec 32 := 0#32
  let v600 : BitVec 1 := Scalar.cmpi .eq c32_i32_350 c0_i32_351
  let c1_i32_352 : BitVec 32 := 1#32
  let v601 : BitVec 32 := Scalar.select v600 c1_i32_352 c32_i32_350
  let v602 : BitVec 32 := Scalar.remsi v599 v601
  let c0_i32_354 : BitVec 32 := 0#32
  let v604 : BitVec 1 := Scalar.cmpi .slt v602 c0_i32_354
  let c0_i32_355 : BitVec 32 := 0#32
  let v605 : BitVec 1 := Scalar.cmpi .slt v601 c0_i32_355
  let v606 : BitVec 1 := Scalar.xori v604 v605
  let c0_i32_353 : BitVec 32 := 0#32
  let v603 : BitVec 1 := Scalar.cmpi .ne v602 c0_i32_353
  let v607 : BitVec 1 := Scalar.andi v606 v603
  let v608 : BitVec 32 := Scalar.addi v602 v601
  let v609 : BitVec 32 := Scalar.select v607 v608 v602
  let c1_i32_358 : BitVec 32 := 1#32
  let v611 : BitVec 32 := Scalar.muli v609 c1_i32_358
  let v612 : BitVec 32 := Scalar.addi c0_i32_359 v611
  v612.toNat
def k0_dev34 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_363 : BitVec 32 := 3#32
  let v620 : BitVec 32 := Scalar.addi v2 c3_i32_363
  let c32_i32_364 : BitVec 32 := 32#32
  let c0_i32_365 : BitVec 32 := 0#32
  let v621 : BitVec 1 := Scalar.cmpi .eq c32_i32_364 c0_i32_365
  let c1_i32_366 : BitVec 32 := 1#32
  let v622 : BitVec 32 := Scalar.select v621 c1_i32_366 c32_i32_364
  let v623 : BitVec 32 := Scalar.remsi v620 v622
  let c0_i32_368 : BitVec 32 := 0#32
  let v625 : BitVec 1 := Scalar.cmpi .slt v623 c0_i32_368
  let c0_i32_369 : BitVec 32 := 0#32
  let v626 : BitVec 1 := Scalar.cmpi .slt v622 c0_i32_369
  let v627 : BitVec 1 := Scalar.xori v625 v626
  let c0_i32_367 : BitVec 32 := 0#32
  let v624 : BitVec 1 := Scalar.cmpi .ne v623 c0_i32_367
  let v628 : BitVec 1 := Scalar.andi v627 v624
  let v629 : BitVec 32 := Scalar.addi v623 v622
  let v630 : BitVec 32 := Scalar.select v628 v629 v623
  let c1_i32_372 : BitVec 32 := 1#32
  let v632 : BitVec 32 := Scalar.muli v630 c1_i32_372
  let v633 : BitVec 32 := Scalar.addi c0_i32_373 v632
  v633.toNat
def k0_dev35 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_377 : BitVec 32 := 4#32
  let v641 : BitVec 32 := Scalar.addi v2 c4_i32_377
  let c32_i32_378 : BitVec 32 := 32#32
  let c0_i32_379 : BitVec 32 := 0#32
  let v642 : BitVec 1 := Scalar.cmpi .eq c32_i32_378 c0_i32_379
  let c1_i32_380 : BitVec 32 := 1#32
  let v643 : BitVec 32 := Scalar.select v642 c1_i32_380 c32_i32_378
  let v644 : BitVec 32 := Scalar.remsi v641 v643
  let c0_i32_382 : BitVec 32 := 0#32
  let v646 : BitVec 1 := Scalar.cmpi .slt v644 c0_i32_382
  let c0_i32_383 : BitVec 32 := 0#32
  let v647 : BitVec 1 := Scalar.cmpi .slt v643 c0_i32_383
  let v648 : BitVec 1 := Scalar.xori v646 v647
  let c0_i32_381 : BitVec 32 := 0#32
  let v645 : BitVec 1 := Scalar.cmpi .ne v644 c0_i32_381
  let v649 : BitVec 1 := Scalar.andi v648 v645
  let v650 : BitVec 32 := Scalar.addi v644 v643
  let v651 : BitVec 32 := Scalar.select v649 v650 v644
  let c1_i32_386 : BitVec 32 := 1#32
  let v653 : BitVec 32 := Scalar.muli v651 c1_i32_386
  let v654 : BitVec 32 := Scalar.addi c0_i32_387 v653
  v654.toNat
def k0_dev36 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_391 : BitVec 32 := 5#32
  let v662 : BitVec 32 := Scalar.addi v2 c5_i32_391
  let c32_i32_392 : BitVec 32 := 32#32
  let c0_i32_393 : BitVec 32 := 0#32
  let v663 : BitVec 1 := Scalar.cmpi .eq c32_i32_392 c0_i32_393
  let c1_i32_394 : BitVec 32 := 1#32
  let v664 : BitVec 32 := Scalar.select v663 c1_i32_394 c32_i32_392
  let v665 : BitVec 32 := Scalar.remsi v662 v664
  let c0_i32_396 : BitVec 32 := 0#32
  let v667 : BitVec 1 := Scalar.cmpi .slt v665 c0_i32_396
  let c0_i32_397 : BitVec 32 := 0#32
  let v668 : BitVec 1 := Scalar.cmpi .slt v664 c0_i32_397
  let v669 : BitVec 1 := Scalar.xori v667 v668
  let c0_i32_395 : BitVec 32 := 0#32
  let v666 : BitVec 1 := Scalar.cmpi .ne v665 c0_i32_395
  let v670 : BitVec 1 := Scalar.andi v669 v666
  let v671 : BitVec 32 := Scalar.addi v665 v664
  let v672 : BitVec 32 := Scalar.select v670 v671 v665
  let c1_i32_400 : BitVec 32 := 1#32
  let v674 : BitVec 32 := Scalar.muli v672 c1_i32_400
  let v675 : BitVec 32 := Scalar.addi c0_i32_401 v674
  v675.toNat
def k0_dev37 (d0 : Dev nD) : Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_405 : BitVec 32 := 6#32
  let v683 : BitVec 32 := Scalar.addi v2 c6_i32_405
  let c32_i32_406 : BitVec 32 := 32#32
  let c0_i32_407 : BitVec 32 := 0#32
  let v684 : BitVec 1 := Scalar.cmpi .eq c32_i32_406 c0_i32_407
  let c1_i32_408 : BitVec 32 := 1#32
  let v685 : BitVec 32 := Scalar.select v684 c1_i32_408 c32_i32_406
  let v686 : BitVec 32 := Scalar.remsi v683 v685
  let c0_i32_410 : BitVec 32 := 0#32
  let v688 : BitVec 1 := Scalar.cmpi .slt v686 c0_i32_410
  let c0_i32_411 : BitVec 32 := 0#32
  let v689 : BitVec 1 := Scalar.cmpi .slt v685 c0_i32_411
  let v690 : BitVec 1 := Scalar.xori v688 v689
  let c0_i32_409 : BitVec 32 := 0#32
  let v687 : BitVec 1 := Scalar.cmpi .ne v686 c0_i32_409
  let v691 : BitVec 1 := Scalar.andi v690 v687
  let v692 : BitVec 32 := Scalar.addi v686 v685
  let v693 : BitVec 32 := Scalar.select v691 v692 v686
  let c1_i32_414 : BitVec 32 := 1#32
  let v695 : BitVec 32 := Scalar.muli v693 c1_i32_414
  let v696 : BitVec 32 := Scalar.addi c0_i32_415 v695
  v696.toNat
def k0_dev38 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_419 : BitVec 32 := 7#32
  let v704 : BitVec 32 := Scalar.addi v2 c7_i32_419
  let c32_i32_420 : BitVec 32 := 32#32
  let c0_i32_421 : BitVec 32 := 0#32
  let v705 : BitVec 1 := Scalar.cmpi .eq c32_i32_420 c0_i32_421
  let c1_i32_422 : BitVec 32 := 1#32
  let v706 : BitVec 32 := Scalar.select v705 c1_i32_422 c32_i32_420
  let v707 : BitVec 32 := Scalar.remsi v704 v706
  let c0_i32_424 : BitVec 32 := 0#32
  let v709 : BitVec 1 := Scalar.cmpi .slt v707 c0_i32_424
  let c0_i32_425 : BitVec 32 := 0#32
  let v710 : BitVec 1 := Scalar.cmpi .slt v706 c0_i32_425
  let v711 : BitVec 1 := Scalar.xori v709 v710
  let c0_i32_423 : BitVec 32 := 0#32
  let v708 : BitVec 1 := Scalar.cmpi .ne v707 c0_i32_423
  let v712 : BitVec 1 := Scalar.andi v711 v708
  let v713 : BitVec 32 := Scalar.addi v707 v706
  let v714 : BitVec 32 := Scalar.select v712 v713 v707
  let c1_i32_428 : BitVec 32 := 1#32
  let v716 : BitVec 32 := Scalar.muli v714 c1_i32_428
  let v717 : BitVec 32 := Scalar.addi c0_i32_429 v716
  v717.toNat
def k0_dev39 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_433 : BitVec 32 := 8#32
  let v725 : BitVec 32 := Scalar.addi v2 c8_i32_433
  let c32_i32_434 : BitVec 32 := 32#32
  let c0_i32_435 : BitVec 32 := 0#32
  let v726 : BitVec 1 := Scalar.cmpi .eq c32_i32_434 c0_i32_435
  let c1_i32_436 : BitVec 32 := 1#32
  let v727 : BitVec 32 := Scalar.select v726 c1_i32_436 c32_i32_434
  let v728 : BitVec 32 := Scalar.remsi v725 v727
  let c0_i32_438 : BitVec 32 := 0#32
  let v730 : BitVec 1 := Scalar.cmpi .slt v728 c0_i32_438
  let c0_i32_439 : BitVec 32 := 0#32
  let v731 : BitVec 1 := Scalar.cmpi .slt v727 c0_i32_439
  let v732 : BitVec 1 := Scalar.xori v730 v731
  let c0_i32_437 : BitVec 32 := 0#32
  let v729 : BitVec 1 := Scalar.cmpi .ne v728 c0_i32_437
  let v733 : BitVec 1 := Scalar.andi v732 v729
  let v734 : BitVec 32 := Scalar.addi v728 v727
  let v735 : BitVec 32 := Scalar.select v733 v734 v728
  let c1_i32_442 : BitVec 32 := 1#32
  let v737 : BitVec 32 := Scalar.muli v735 c1_i32_442
  let v738 : BitVec 32 := Scalar.addi c0_i32_443 v737
  v738.toNat
def k0_dev40 (d0 : Dev nD) : Nat :=
  let c0_i32_457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_447 : BitVec 32 := 9#32
  let v746 : BitVec 32 := Scalar.addi v2 c9_i32_447
  let c32_i32_448 : BitVec 32 := 32#32
  let c0_i32_449 : BitVec 32 := 0#32
  let v747 : BitVec 1 := Scalar.cmpi .eq c32_i32_448 c0_i32_449
  let c1_i32_450 : BitVec 32 := 1#32
  let v748 : BitVec 32 := Scalar.select v747 c1_i32_450 c32_i32_448
  let v749 : BitVec 32 := Scalar.remsi v746 v748
  let c0_i32_452 : BitVec 32 := 0#32
  let v751 : BitVec 1 := Scalar.cmpi .slt v749 c0_i32_452
  let c0_i32_453 : BitVec 32 := 0#32
  let v752 : BitVec 1 := Scalar.cmpi .slt v748 c0_i32_453
  let v753 : BitVec 1 := Scalar.xori v751 v752
  let c0_i32_451 : BitVec 32 := 0#32
  let v750 : BitVec 1 := Scalar.cmpi .ne v749 c0_i32_451
  let v754 : BitVec 1 := Scalar.andi v753 v750
  let v755 : BitVec 32 := Scalar.addi v749 v748
  let v756 : BitVec 32 := Scalar.select v754 v755 v749
  let c1_i32_456 : BitVec 32 := 1#32
  let v758 : BitVec 32 := Scalar.muli v756 c1_i32_456
  let v759 : BitVec 32 := Scalar.addi c0_i32_457 v758
  v759.toNat
def k0_dev41 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_461 : BitVec 32 := 10#32
  let v767 : BitVec 32 := Scalar.addi v2 c10_i32_461
  let c32_i32_462 : BitVec 32 := 32#32
  let c0_i32_463 : BitVec 32 := 0#32
  let v768 : BitVec 1 := Scalar.cmpi .eq c32_i32_462 c0_i32_463
  let c1_i32_464 : BitVec 32 := 1#32
  let v769 : BitVec 32 := Scalar.select v768 c1_i32_464 c32_i32_462
  let v770 : BitVec 32 := Scalar.remsi v767 v769
  let c0_i32_466 : BitVec 32 := 0#32
  let v772 : BitVec 1 := Scalar.cmpi .slt v770 c0_i32_466
  let c0_i32_467 : BitVec 32 := 0#32
  let v773 : BitVec 1 := Scalar.cmpi .slt v769 c0_i32_467
  let v774 : BitVec 1 := Scalar.xori v772 v773
  let c0_i32_465 : BitVec 32 := 0#32
  let v771 : BitVec 1 := Scalar.cmpi .ne v770 c0_i32_465
  let v775 : BitVec 1 := Scalar.andi v774 v771
  let v776 : BitVec 32 := Scalar.addi v770 v769
  let v777 : BitVec 32 := Scalar.select v775 v776 v770
  let c1_i32_470 : BitVec 32 := 1#32
  let v779 : BitVec 32 := Scalar.muli v777 c1_i32_470
  let v780 : BitVec 32 := Scalar.addi c0_i32_471 v779
  v780.toNat
def k0_dev42 (d0 : Dev nD) : Nat :=
  let c0_i32_485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_475 : BitVec 32 := 11#32
  let v788 : BitVec 32 := Scalar.addi v2 c11_i32_475
  let c32_i32_476 : BitVec 32 := 32#32
  let c0_i32_477 : BitVec 32 := 0#32
  let v789 : BitVec 1 := Scalar.cmpi .eq c32_i32_476 c0_i32_477
  let c1_i32_478 : BitVec 32 := 1#32
  let v790 : BitVec 32 := Scalar.select v789 c1_i32_478 c32_i32_476
  let v791 : BitVec 32 := Scalar.remsi v788 v790
  let c0_i32_480 : BitVec 32 := 0#32
  let v793 : BitVec 1 := Scalar.cmpi .slt v791 c0_i32_480
  let c0_i32_481 : BitVec 32 := 0#32
  let v794 : BitVec 1 := Scalar.cmpi .slt v790 c0_i32_481
  let v795 : BitVec 1 := Scalar.xori v793 v794
  let c0_i32_479 : BitVec 32 := 0#32
  let v792 : BitVec 1 := Scalar.cmpi .ne v791 c0_i32_479
  let v796 : BitVec 1 := Scalar.andi v795 v792
  let v797 : BitVec 32 := Scalar.addi v791 v790
  let v798 : BitVec 32 := Scalar.select v796 v797 v791
  let c1_i32_484 : BitVec 32 := 1#32
  let v800 : BitVec 32 := Scalar.muli v798 c1_i32_484
  let v801 : BitVec 32 := Scalar.addi c0_i32_485 v800
  v801.toNat
def k0_dev43 (d0 : Dev nD) : Nat :=
  let c0_i32_499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_489 : BitVec 32 := 12#32
  let v809 : BitVec 32 := Scalar.addi v2 c12_i32_489
  let c32_i32_490 : BitVec 32 := 32#32
  let c0_i32_491 : BitVec 32 := 0#32
  let v810 : BitVec 1 := Scalar.cmpi .eq c32_i32_490 c0_i32_491
  let c1_i32_492 : BitVec 32 := 1#32
  let v811 : BitVec 32 := Scalar.select v810 c1_i32_492 c32_i32_490
  let v812 : BitVec 32 := Scalar.remsi v809 v811
  let c0_i32_494 : BitVec 32 := 0#32
  let v814 : BitVec 1 := Scalar.cmpi .slt v812 c0_i32_494
  let c0_i32_495 : BitVec 32 := 0#32
  let v815 : BitVec 1 := Scalar.cmpi .slt v811 c0_i32_495
  let v816 : BitVec 1 := Scalar.xori v814 v815
  let c0_i32_493 : BitVec 32 := 0#32
  let v813 : BitVec 1 := Scalar.cmpi .ne v812 c0_i32_493
  let v817 : BitVec 1 := Scalar.andi v816 v813
  let v818 : BitVec 32 := Scalar.addi v812 v811
  let v819 : BitVec 32 := Scalar.select v817 v818 v812
  let c1_i32_498 : BitVec 32 := 1#32
  let v821 : BitVec 32 := Scalar.muli v819 c1_i32_498
  let v822 : BitVec 32 := Scalar.addi c0_i32_499 v821
  v822.toNat
def k0_dev44 (d0 : Dev nD) : Nat :=
  let c0_i32_513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_503 : BitVec 32 := 13#32
  let v830 : BitVec 32 := Scalar.addi v2 c13_i32_503
  let c32_i32_504 : BitVec 32 := 32#32
  let c0_i32_505 : BitVec 32 := 0#32
  let v831 : BitVec 1 := Scalar.cmpi .eq c32_i32_504 c0_i32_505
  let c1_i32_506 : BitVec 32 := 1#32
  let v832 : BitVec 32 := Scalar.select v831 c1_i32_506 c32_i32_504
  let v833 : BitVec 32 := Scalar.remsi v830 v832
  let c0_i32_508 : BitVec 32 := 0#32
  let v835 : BitVec 1 := Scalar.cmpi .slt v833 c0_i32_508
  let c0_i32_509 : BitVec 32 := 0#32
  let v836 : BitVec 1 := Scalar.cmpi .slt v832 c0_i32_509
  let v837 : BitVec 1 := Scalar.xori v835 v836
  let c0_i32_507 : BitVec 32 := 0#32
  let v834 : BitVec 1 := Scalar.cmpi .ne v833 c0_i32_507
  let v838 : BitVec 1 := Scalar.andi v837 v834
  let v839 : BitVec 32 := Scalar.addi v833 v832
  let v840 : BitVec 32 := Scalar.select v838 v839 v833
  let c1_i32_512 : BitVec 32 := 1#32
  let v842 : BitVec 32 := Scalar.muli v840 c1_i32_512
  let v843 : BitVec 32 := Scalar.addi c0_i32_513 v842
  v843.toNat
def k0_dev45 (d0 : Dev nD) : Nat :=
  let c0_i32_527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_517 : BitVec 32 := 14#32
  let v851 : BitVec 32 := Scalar.addi v2 c14_i32_517
  let c32_i32_518 : BitVec 32 := 32#32
  let c0_i32_519 : BitVec 32 := 0#32
  let v852 : BitVec 1 := Scalar.cmpi .eq c32_i32_518 c0_i32_519
  let c1_i32_520 : BitVec 32 := 1#32
  let v853 : BitVec 32 := Scalar.select v852 c1_i32_520 c32_i32_518
  let v854 : BitVec 32 := Scalar.remsi v851 v853
  let c0_i32_522 : BitVec 32 := 0#32
  let v856 : BitVec 1 := Scalar.cmpi .slt v854 c0_i32_522
  let c0_i32_523 : BitVec 32 := 0#32
  let v857 : BitVec 1 := Scalar.cmpi .slt v853 c0_i32_523
  let v858 : BitVec 1 := Scalar.xori v856 v857
  let c0_i32_521 : BitVec 32 := 0#32
  let v855 : BitVec 1 := Scalar.cmpi .ne v854 c0_i32_521
  let v859 : BitVec 1 := Scalar.andi v858 v855
  let v860 : BitVec 32 := Scalar.addi v854 v853
  let v861 : BitVec 32 := Scalar.select v859 v860 v854
  let c1_i32_526 : BitVec 32 := 1#32
  let v863 : BitVec 32 := Scalar.muli v861 c1_i32_526
  let v864 : BitVec 32 := Scalar.addi c0_i32_527 v863
  v864.toNat
def k0_dev46 (d0 : Dev nD) : Nat :=
  let c0_i32_541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_531 : BitVec 32 := 15#32
  let v872 : BitVec 32 := Scalar.addi v2 c15_i32_531
  let c32_i32_532 : BitVec 32 := 32#32
  let c0_i32_533 : BitVec 32 := 0#32
  let v873 : BitVec 1 := Scalar.cmpi .eq c32_i32_532 c0_i32_533
  let c1_i32_534 : BitVec 32 := 1#32
  let v874 : BitVec 32 := Scalar.select v873 c1_i32_534 c32_i32_532
  let v875 : BitVec 32 := Scalar.remsi v872 v874
  let c0_i32_536 : BitVec 32 := 0#32
  let v877 : BitVec 1 := Scalar.cmpi .slt v875 c0_i32_536
  let c0_i32_537 : BitVec 32 := 0#32
  let v878 : BitVec 1 := Scalar.cmpi .slt v874 c0_i32_537
  let v879 : BitVec 1 := Scalar.xori v877 v878
  let c0_i32_535 : BitVec 32 := 0#32
  let v876 : BitVec 1 := Scalar.cmpi .ne v875 c0_i32_535
  let v880 : BitVec 1 := Scalar.andi v879 v876
  let v881 : BitVec 32 := Scalar.addi v875 v874
  let v882 : BitVec 32 := Scalar.select v880 v881 v875
  let c1_i32_540 : BitVec 32 := 1#32
  let v884 : BitVec 32 := Scalar.muli v882 c1_i32_540
  let v885 : BitVec 32 := Scalar.addi c0_i32_541 v884
  v885.toNat
def k0_dev47 (d0 : Dev nD) : Nat :=
  let c0_i32_555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_545 : BitVec 32 := 16#32
  let v893 : BitVec 32 := Scalar.addi v2 c16_i32_545
  let c32_i32_546 : BitVec 32 := 32#32
  let c0_i32_547 : BitVec 32 := 0#32
  let v894 : BitVec 1 := Scalar.cmpi .eq c32_i32_546 c0_i32_547
  let c1_i32_548 : BitVec 32 := 1#32
  let v895 : BitVec 32 := Scalar.select v894 c1_i32_548 c32_i32_546
  let v896 : BitVec 32 := Scalar.remsi v893 v895
  let c0_i32_550 : BitVec 32 := 0#32
  let v898 : BitVec 1 := Scalar.cmpi .slt v896 c0_i32_550
  let c0_i32_551 : BitVec 32 := 0#32
  let v899 : BitVec 1 := Scalar.cmpi .slt v895 c0_i32_551
  let v900 : BitVec 1 := Scalar.xori v898 v899
  let c0_i32_549 : BitVec 32 := 0#32
  let v897 : BitVec 1 := Scalar.cmpi .ne v896 c0_i32_549
  let v901 : BitVec 1 := Scalar.andi v900 v897
  let v902 : BitVec 32 := Scalar.addi v896 v895
  let v903 : BitVec 32 := Scalar.select v901 v902 v896
  let c1_i32_554 : BitVec 32 := 1#32
  let v905 : BitVec 32 := Scalar.muli v903 c1_i32_554
  let v906 : BitVec 32 := Scalar.addi c0_i32_555 v905
  v906.toNat
def k0_dev48 (d0 : Dev nD) : Nat :=
  let c0_i32_569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_559 : BitVec 32 := 17#32
  let v914 : BitVec 32 := Scalar.addi v2 c17_i32_559
  let c32_i32_560 : BitVec 32 := 32#32
  let c0_i32_561 : BitVec 32 := 0#32
  let v915 : BitVec 1 := Scalar.cmpi .eq c32_i32_560 c0_i32_561
  let c1_i32_562 : BitVec 32 := 1#32
  let v916 : BitVec 32 := Scalar.select v915 c1_i32_562 c32_i32_560
  let v917 : BitVec 32 := Scalar.remsi v914 v916
  let c0_i32_564 : BitVec 32 := 0#32
  let v919 : BitVec 1 := Scalar.cmpi .slt v917 c0_i32_564
  let c0_i32_565 : BitVec 32 := 0#32
  let v920 : BitVec 1 := Scalar.cmpi .slt v916 c0_i32_565
  let v921 : BitVec 1 := Scalar.xori v919 v920
  let c0_i32_563 : BitVec 32 := 0#32
  let v918 : BitVec 1 := Scalar.cmpi .ne v917 c0_i32_563
  let v922 : BitVec 1 := Scalar.andi v921 v918
  let v923 : BitVec 32 := Scalar.addi v917 v916
  let v924 : BitVec 32 := Scalar.select v922 v923 v917
  let c1_i32_568 : BitVec 32 := 1#32
  let v926 : BitVec 32 := Scalar.muli v924 c1_i32_568
  let v927 : BitVec 32 := Scalar.addi c0_i32_569 v926
  v927.toNat
def k0_dev49 (d0 : Dev nD) : Nat :=
  let c0_i32_583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_573 : BitVec 32 := 18#32
  let v935 : BitVec 32 := Scalar.addi v2 c18_i32_573
  let c32_i32_574 : BitVec 32 := 32#32
  let c0_i32_575 : BitVec 32 := 0#32
  let v936 : BitVec 1 := Scalar.cmpi .eq c32_i32_574 c0_i32_575
  let c1_i32_576 : BitVec 32 := 1#32
  let v937 : BitVec 32 := Scalar.select v936 c1_i32_576 c32_i32_574
  let v938 : BitVec 32 := Scalar.remsi v935 v937
  let c0_i32_578 : BitVec 32 := 0#32
  let v940 : BitVec 1 := Scalar.cmpi .slt v938 c0_i32_578
  let c0_i32_579 : BitVec 32 := 0#32
  let v941 : BitVec 1 := Scalar.cmpi .slt v937 c0_i32_579
  let v942 : BitVec 1 := Scalar.xori v940 v941
  let c0_i32_577 : BitVec 32 := 0#32
  let v939 : BitVec 1 := Scalar.cmpi .ne v938 c0_i32_577
  let v943 : BitVec 1 := Scalar.andi v942 v939
  let v944 : BitVec 32 := Scalar.addi v938 v937
  let v945 : BitVec 32 := Scalar.select v943 v944 v938
  let c1_i32_582 : BitVec 32 := 1#32
  let v947 : BitVec 32 := Scalar.muli v945 c1_i32_582
  let v948 : BitVec 32 := Scalar.addi c0_i32_583 v947
  v948.toNat
def k0_dev50 (d0 : Dev nD) : Nat :=
  let c0_i32_597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_587 : BitVec 32 := 19#32
  let v956 : BitVec 32 := Scalar.addi v2 c19_i32_587
  let c32_i32_588 : BitVec 32 := 32#32
  let c0_i32_589 : BitVec 32 := 0#32
  let v957 : BitVec 1 := Scalar.cmpi .eq c32_i32_588 c0_i32_589
  let c1_i32_590 : BitVec 32 := 1#32
  let v958 : BitVec 32 := Scalar.select v957 c1_i32_590 c32_i32_588
  let v959 : BitVec 32 := Scalar.remsi v956 v958
  let c0_i32_592 : BitVec 32 := 0#32
  let v961 : BitVec 1 := Scalar.cmpi .slt v959 c0_i32_592
  let c0_i32_593 : BitVec 32 := 0#32
  let v962 : BitVec 1 := Scalar.cmpi .slt v958 c0_i32_593
  let v963 : BitVec 1 := Scalar.xori v961 v962
  let c0_i32_591 : BitVec 32 := 0#32
  let v960 : BitVec 1 := Scalar.cmpi .ne v959 c0_i32_591
  let v964 : BitVec 1 := Scalar.andi v963 v960
  let v965 : BitVec 32 := Scalar.addi v959 v958
  let v966 : BitVec 32 := Scalar.select v964 v965 v959
  let c1_i32_596 : BitVec 32 := 1#32
  let v968 : BitVec 32 := Scalar.muli v966 c1_i32_596
  let v969 : BitVec 32 := Scalar.addi c0_i32_597 v968
  v969.toNat
def k0_dev51 (d0 : Dev nD) : Nat :=
  let c0_i32_611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_601 : BitVec 32 := 20#32
  let v977 : BitVec 32 := Scalar.addi v2 c20_i32_601
  let c32_i32_602 : BitVec 32 := 32#32
  let c0_i32_603 : BitVec 32 := 0#32
  let v978 : BitVec 1 := Scalar.cmpi .eq c32_i32_602 c0_i32_603
  let c1_i32_604 : BitVec 32 := 1#32
  let v979 : BitVec 32 := Scalar.select v978 c1_i32_604 c32_i32_602
  let v980 : BitVec 32 := Scalar.remsi v977 v979
  let c0_i32_606 : BitVec 32 := 0#32
  let v982 : BitVec 1 := Scalar.cmpi .slt v980 c0_i32_606
  let c0_i32_607 : BitVec 32 := 0#32
  let v983 : BitVec 1 := Scalar.cmpi .slt v979 c0_i32_607
  let v984 : BitVec 1 := Scalar.xori v982 v983
  let c0_i32_605 : BitVec 32 := 0#32
  let v981 : BitVec 1 := Scalar.cmpi .ne v980 c0_i32_605
  let v985 : BitVec 1 := Scalar.andi v984 v981
  let v986 : BitVec 32 := Scalar.addi v980 v979
  let v987 : BitVec 32 := Scalar.select v985 v986 v980
  let c1_i32_610 : BitVec 32 := 1#32
  let v989 : BitVec 32 := Scalar.muli v987 c1_i32_610
  let v990 : BitVec 32 := Scalar.addi c0_i32_611 v989
  v990.toNat
def k0_dev52 (d0 : Dev nD) : Nat :=
  let c0_i32_625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_615 : BitVec 32 := 21#32
  let v998 : BitVec 32 := Scalar.addi v2 c21_i32_615
  let c32_i32_616 : BitVec 32 := 32#32
  let c0_i32_617 : BitVec 32 := 0#32
  let v999 : BitVec 1 := Scalar.cmpi .eq c32_i32_616 c0_i32_617
  let c1_i32_618 : BitVec 32 := 1#32
  let v1000 : BitVec 32 := Scalar.select v999 c1_i32_618 c32_i32_616
  let v1001 : BitVec 32 := Scalar.remsi v998 v1000
  let c0_i32_620 : BitVec 32 := 0#32
  let v1003 : BitVec 1 := Scalar.cmpi .slt v1001 c0_i32_620
  let c0_i32_621 : BitVec 32 := 0#32
  let v1004 : BitVec 1 := Scalar.cmpi .slt v1000 c0_i32_621
  let v1005 : BitVec 1 := Scalar.xori v1003 v1004
  let c0_i32_619 : BitVec 32 := 0#32
  let v1002 : BitVec 1 := Scalar.cmpi .ne v1001 c0_i32_619
  let v1006 : BitVec 1 := Scalar.andi v1005 v1002
  let v1007 : BitVec 32 := Scalar.addi v1001 v1000
  let v1008 : BitVec 32 := Scalar.select v1006 v1007 v1001
  let c1_i32_624 : BitVec 32 := 1#32
  let v1010 : BitVec 32 := Scalar.muli v1008 c1_i32_624
  let v1011 : BitVec 32 := Scalar.addi c0_i32_625 v1010
  v1011.toNat
def k0_dev53 (d0 : Dev nD) : Nat :=
  let c0_i32_639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_629 : BitVec 32 := 22#32
  let v1019 : BitVec 32 := Scalar.addi v2 c22_i32_629
  let c32_i32_630 : BitVec 32 := 32#32
  let c0_i32_631 : BitVec 32 := 0#32
  let v1020 : BitVec 1 := Scalar.cmpi .eq c32_i32_630 c0_i32_631
  let c1_i32_632 : BitVec 32 := 1#32
  let v1021 : BitVec 32 := Scalar.select v1020 c1_i32_632 c32_i32_630
  let v1022 : BitVec 32 := Scalar.remsi v1019 v1021
  let c0_i32_634 : BitVec 32 := 0#32
  let v1024 : BitVec 1 := Scalar.cmpi .slt v1022 c0_i32_634
  let c0_i32_635 : BitVec 32 := 0#32
  let v1025 : BitVec 1 := Scalar.cmpi .slt v1021 c0_i32_635
  let v1026 : BitVec 1 := Scalar.xori v1024 v1025
  let c0_i32_633 : BitVec 32 := 0#32
  let v1023 : BitVec 1 := Scalar.cmpi .ne v1022 c0_i32_633
  let v1027 : BitVec 1 := Scalar.andi v1026 v1023
  let v1028 : BitVec 32 := Scalar.addi v1022 v1021
  let v1029 : BitVec 32 := Scalar.select v1027 v1028 v1022
  let c1_i32_638 : BitVec 32 := 1#32
  let v1031 : BitVec 32 := Scalar.muli v1029 c1_i32_638
  let v1032 : BitVec 32 := Scalar.addi c0_i32_639 v1031
  v1032.toNat
def k0_dev54 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_643 : BitVec 32 := 23#32
  let v1040 : BitVec 32 := Scalar.addi v2 c23_i32_643
  let c32_i32_644 : BitVec 32 := 32#32
  let c0_i32_645 : BitVec 32 := 0#32
  let v1041 : BitVec 1 := Scalar.cmpi .eq c32_i32_644 c0_i32_645
  let c1_i32_646 : BitVec 32 := 1#32
  let v1042 : BitVec 32 := Scalar.select v1041 c1_i32_646 c32_i32_644
  let v1043 : BitVec 32 := Scalar.remsi v1040 v1042
  let c0_i32_648 : BitVec 32 := 0#32
  let v1045 : BitVec 1 := Scalar.cmpi .slt v1043 c0_i32_648
  let c0_i32_649 : BitVec 32 := 0#32
  let v1046 : BitVec 1 := Scalar.cmpi .slt v1042 c0_i32_649
  let v1047 : BitVec 1 := Scalar.xori v1045 v1046
  let c0_i32_647 : BitVec 32 := 0#32
  let v1044 : BitVec 1 := Scalar.cmpi .ne v1043 c0_i32_647
  let v1048 : BitVec 1 := Scalar.andi v1047 v1044
  let v1049 : BitVec 32 := Scalar.addi v1043 v1042
  let v1050 : BitVec 32 := Scalar.select v1048 v1049 v1043
  let c1_i32_652 : BitVec 32 := 1#32
  let v1052 : BitVec 32 := Scalar.muli v1050 c1_i32_652
  let v1053 : BitVec 32 := Scalar.addi c0_i32_653 v1052
  v1053.toNat
def k0_dev55 (d0 : Dev nD) : Nat :=
  let c0_i32_667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_657 : BitVec 32 := 24#32
  let v1061 : BitVec 32 := Scalar.addi v2 c24_i32_657
  let c32_i32_658 : BitVec 32 := 32#32
  let c0_i32_659 : BitVec 32 := 0#32
  let v1062 : BitVec 1 := Scalar.cmpi .eq c32_i32_658 c0_i32_659
  let c1_i32_660 : BitVec 32 := 1#32
  let v1063 : BitVec 32 := Scalar.select v1062 c1_i32_660 c32_i32_658
  let v1064 : BitVec 32 := Scalar.remsi v1061 v1063
  let c0_i32_662 : BitVec 32 := 0#32
  let v1066 : BitVec 1 := Scalar.cmpi .slt v1064 c0_i32_662
  let c0_i32_663 : BitVec 32 := 0#32
  let v1067 : BitVec 1 := Scalar.cmpi .slt v1063 c0_i32_663
  let v1068 : BitVec 1 := Scalar.xori v1066 v1067
  let c0_i32_661 : BitVec 32 := 0#32
  let v1065 : BitVec 1 := Scalar.cmpi .ne v1064 c0_i32_661
  let v1069 : BitVec 1 := Scalar.andi v1068 v1065
  let v1070 : BitVec 32 := Scalar.addi v1064 v1063
  let v1071 : BitVec 32 := Scalar.select v1069 v1070 v1064
  let c1_i32_666 : BitVec 32 := 1#32
  let v1073 : BitVec 32 := Scalar.muli v1071 c1_i32_666
  let v1074 : BitVec 32 := Scalar.addi c0_i32_667 v1073
  v1074.toNat
def k0_dev56 (d0 : Dev nD) : Nat :=
  let c0_i32_681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_671 : BitVec 32 := 25#32
  let v1082 : BitVec 32 := Scalar.addi v2 c25_i32_671
  let c32_i32_672 : BitVec 32 := 32#32
  let c0_i32_673 : BitVec 32 := 0#32
  let v1083 : BitVec 1 := Scalar.cmpi .eq c32_i32_672 c0_i32_673
  let c1_i32_674 : BitVec 32 := 1#32
  let v1084 : BitVec 32 := Scalar.select v1083 c1_i32_674 c32_i32_672
  let v1085 : BitVec 32 := Scalar.remsi v1082 v1084
  let c0_i32_676 : BitVec 32 := 0#32
  let v1087 : BitVec 1 := Scalar.cmpi .slt v1085 c0_i32_676
  let c0_i32_677 : BitVec 32 := 0#32
  let v1088 : BitVec 1 := Scalar.cmpi .slt v1084 c0_i32_677
  let v1089 : BitVec 1 := Scalar.xori v1087 v1088
  let c0_i32_675 : BitVec 32 := 0#32
  let v1086 : BitVec 1 := Scalar.cmpi .ne v1085 c0_i32_675
  let v1090 : BitVec 1 := Scalar.andi v1089 v1086
  let v1091 : BitVec 32 := Scalar.addi v1085 v1084
  let v1092 : BitVec 32 := Scalar.select v1090 v1091 v1085
  let c1_i32_680 : BitVec 32 := 1#32
  let v1094 : BitVec 32 := Scalar.muli v1092 c1_i32_680
  let v1095 : BitVec 32 := Scalar.addi c0_i32_681 v1094
  v1095.toNat
def k0_dev57 (d0 : Dev nD) : Nat :=
  let c0_i32_695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_685 : BitVec 32 := 26#32
  let v1103 : BitVec 32 := Scalar.addi v2 c26_i32_685
  let c32_i32_686 : BitVec 32 := 32#32
  let c0_i32_687 : BitVec 32 := 0#32
  let v1104 : BitVec 1 := Scalar.cmpi .eq c32_i32_686 c0_i32_687
  let c1_i32_688 : BitVec 32 := 1#32
  let v1105 : BitVec 32 := Scalar.select v1104 c1_i32_688 c32_i32_686
  let v1106 : BitVec 32 := Scalar.remsi v1103 v1105
  let c0_i32_690 : BitVec 32 := 0#32
  let v1108 : BitVec 1 := Scalar.cmpi .slt v1106 c0_i32_690
  let c0_i32_691 : BitVec 32 := 0#32
  let v1109 : BitVec 1 := Scalar.cmpi .slt v1105 c0_i32_691
  let v1110 : BitVec 1 := Scalar.xori v1108 v1109
  let c0_i32_689 : BitVec 32 := 0#32
  let v1107 : BitVec 1 := Scalar.cmpi .ne v1106 c0_i32_689
  let v1111 : BitVec 1 := Scalar.andi v1110 v1107
  let v1112 : BitVec 32 := Scalar.addi v1106 v1105
  let v1113 : BitVec 32 := Scalar.select v1111 v1112 v1106
  let c1_i32_694 : BitVec 32 := 1#32
  let v1115 : BitVec 32 := Scalar.muli v1113 c1_i32_694
  let v1116 : BitVec 32 := Scalar.addi c0_i32_695 v1115
  v1116.toNat
def k0_dev58 (d0 : Dev nD) : Nat :=
  let c0_i32_709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_699 : BitVec 32 := 27#32
  let v1124 : BitVec 32 := Scalar.addi v2 c27_i32_699
  let c32_i32_700 : BitVec 32 := 32#32
  let c0_i32_701 : BitVec 32 := 0#32
  let v1125 : BitVec 1 := Scalar.cmpi .eq c32_i32_700 c0_i32_701
  let c1_i32_702 : BitVec 32 := 1#32
  let v1126 : BitVec 32 := Scalar.select v1125 c1_i32_702 c32_i32_700
  let v1127 : BitVec 32 := Scalar.remsi v1124 v1126
  let c0_i32_704 : BitVec 32 := 0#32
  let v1129 : BitVec 1 := Scalar.cmpi .slt v1127 c0_i32_704
  let c0_i32_705 : BitVec 32 := 0#32
  let v1130 : BitVec 1 := Scalar.cmpi .slt v1126 c0_i32_705
  let v1131 : BitVec 1 := Scalar.xori v1129 v1130
  let c0_i32_703 : BitVec 32 := 0#32
  let v1128 : BitVec 1 := Scalar.cmpi .ne v1127 c0_i32_703
  let v1132 : BitVec 1 := Scalar.andi v1131 v1128
  let v1133 : BitVec 32 := Scalar.addi v1127 v1126
  let v1134 : BitVec 32 := Scalar.select v1132 v1133 v1127
  let c1_i32_708 : BitVec 32 := 1#32
  let v1136 : BitVec 32 := Scalar.muli v1134 c1_i32_708
  let v1137 : BitVec 32 := Scalar.addi c0_i32_709 v1136
  v1137.toNat
def k0_dev59 (d0 : Dev nD) : Nat :=
  let c0_i32_723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_713 : BitVec 32 := 28#32
  let v1145 : BitVec 32 := Scalar.addi v2 c28_i32_713
  let c32_i32_714 : BitVec 32 := 32#32
  let c0_i32_715 : BitVec 32 := 0#32
  let v1146 : BitVec 1 := Scalar.cmpi .eq c32_i32_714 c0_i32_715
  let c1_i32_716 : BitVec 32 := 1#32
  let v1147 : BitVec 32 := Scalar.select v1146 c1_i32_716 c32_i32_714
  let v1148 : BitVec 32 := Scalar.remsi v1145 v1147
  let c0_i32_718 : BitVec 32 := 0#32
  let v1150 : BitVec 1 := Scalar.cmpi .slt v1148 c0_i32_718
  let c0_i32_719 : BitVec 32 := 0#32
  let v1151 : BitVec 1 := Scalar.cmpi .slt v1147 c0_i32_719
  let v1152 : BitVec 1 := Scalar.xori v1150 v1151
  let c0_i32_717 : BitVec 32 := 0#32
  let v1149 : BitVec 1 := Scalar.cmpi .ne v1148 c0_i32_717
  let v1153 : BitVec 1 := Scalar.andi v1152 v1149
  let v1154 : BitVec 32 := Scalar.addi v1148 v1147
  let v1155 : BitVec 32 := Scalar.select v1153 v1154 v1148
  let c1_i32_722 : BitVec 32 := 1#32
  let v1157 : BitVec 32 := Scalar.muli v1155 c1_i32_722
  let v1158 : BitVec 32 := Scalar.addi c0_i32_723 v1157
  v1158.toNat
def k0_dev60 (d0 : Dev nD) : Nat :=
  let c0_i32_737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_727 : BitVec 32 := 29#32
  let v1166 : BitVec 32 := Scalar.addi v2 c29_i32_727
  let c32_i32_728 : BitVec 32 := 32#32
  let c0_i32_729 : BitVec 32 := 0#32
  let v1167 : BitVec 1 := Scalar.cmpi .eq c32_i32_728 c0_i32_729
  let c1_i32_730 : BitVec 32 := 1#32
  let v1168 : BitVec 32 := Scalar.select v1167 c1_i32_730 c32_i32_728
  let v1169 : BitVec 32 := Scalar.remsi v1166 v1168
  let c0_i32_732 : BitVec 32 := 0#32
  let v1171 : BitVec 1 := Scalar.cmpi .slt v1169 c0_i32_732
  let c0_i32_733 : BitVec 32 := 0#32
  let v1172 : BitVec 1 := Scalar.cmpi .slt v1168 c0_i32_733
  let v1173 : BitVec 1 := Scalar.xori v1171 v1172
  let c0_i32_731 : BitVec 32 := 0#32
  let v1170 : BitVec 1 := Scalar.cmpi .ne v1169 c0_i32_731
  let v1174 : BitVec 1 := Scalar.andi v1173 v1170
  let v1175 : BitVec 32 := Scalar.addi v1169 v1168
  let v1176 : BitVec 32 := Scalar.select v1174 v1175 v1169
  let c1_i32_736 : BitVec 32 := 1#32
  let v1178 : BitVec 32 := Scalar.muli v1176 c1_i32_736
  let v1179 : BitVec 32 := Scalar.addi c0_i32_737 v1178
  v1179.toNat
def k0_dev61 (d0 : Dev nD) : Nat :=
  let c0_i32_751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_741 : BitVec 32 := 30#32
  let v1187 : BitVec 32 := Scalar.addi v2 c30_i32_741
  let c32_i32_742 : BitVec 32 := 32#32
  let c0_i32_743 : BitVec 32 := 0#32
  let v1188 : BitVec 1 := Scalar.cmpi .eq c32_i32_742 c0_i32_743
  let c1_i32_744 : BitVec 32 := 1#32
  let v1189 : BitVec 32 := Scalar.select v1188 c1_i32_744 c32_i32_742
  let v1190 : BitVec 32 := Scalar.remsi v1187 v1189
  let c0_i32_746 : BitVec 32 := 0#32
  let v1192 : BitVec 1 := Scalar.cmpi .slt v1190 c0_i32_746
  let c0_i32_747 : BitVec 32 := 0#32
  let v1193 : BitVec 1 := Scalar.cmpi .slt v1189 c0_i32_747
  let v1194 : BitVec 1 := Scalar.xori v1192 v1193
  let c0_i32_745 : BitVec 32 := 0#32
  let v1191 : BitVec 1 := Scalar.cmpi .ne v1190 c0_i32_745
  let v1195 : BitVec 1 := Scalar.andi v1194 v1191
  let v1196 : BitVec 32 := Scalar.addi v1190 v1189
  let v1197 : BitVec 32 := Scalar.select v1195 v1196 v1190
  let c1_i32_750 : BitVec 32 := 1#32
  let v1199 : BitVec 32 := Scalar.muli v1197 c1_i32_750
  let v1200 : BitVec 32 := Scalar.addi c0_i32_751 v1199
  v1200.toNat
def k0_dev62 (d0 : Dev nD) : Nat :=
  let c0_i32_765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_755 : BitVec 32 := 31#32
  let v1208 : BitVec 32 := Scalar.addi v2 c31_i32_755
  let c32_i32_756 : BitVec 32 := 32#32
  let c0_i32_757 : BitVec 32 := 0#32
  let v1209 : BitVec 1 := Scalar.cmpi .eq c32_i32_756 c0_i32_757
  let c1_i32_758 : BitVec 32 := 1#32
  let v1210 : BitVec 32 := Scalar.select v1209 c1_i32_758 c32_i32_756
  let v1211 : BitVec 32 := Scalar.remsi v1208 v1210
  let c0_i32_760 : BitVec 32 := 0#32
  let v1213 : BitVec 1 := Scalar.cmpi .slt v1211 c0_i32_760
  let c0_i32_761 : BitVec 32 := 0#32
  let v1214 : BitVec 1 := Scalar.cmpi .slt v1210 c0_i32_761
  let v1215 : BitVec 1 := Scalar.xori v1213 v1214
  let c0_i32_759 : BitVec 32 := 0#32
  let v1212 : BitVec 1 := Scalar.cmpi .ne v1211 c0_i32_759
  let v1216 : BitVec 1 := Scalar.andi v1215 v1212
  let v1217 : BitVec 32 := Scalar.addi v1211 v1210
  let v1218 : BitVec 32 := Scalar.select v1216 v1217 v1211
  let c1_i32_764 : BitVec 32 := 1#32
  let v1220 : BitVec 32 := Scalar.muli v1218 c1_i32_764
  let v1221 : BitVec 32 := Scalar.addi c0_i32_765 v1220
  v1221.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_769 : BitVec 32 := 16#32
  let v1229 : BitVec 32 := Scalar.muli v2 c16_i32_769
  let v1230 : Index := Scalar.indexCast v1229
  let c0_770 : Index := 0#32
  ![v1230.toNat, 0]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1232 : Index := Scalar.indexCast v2
  let c0_771 : Index := 0#32
  let c0_772 : Index := 0#32
  ![v1232.toNat, 0, 0]
def k0_off6 (d0 : Dev nD) (c1_i32_773 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1236 : BitVec 32 := Scalar.addi v2 c1_i32_773
  let c32_i32_774 : BitVec 32 := 32#32
  let c0_i32_775 : BitVec 32 := 0#32
  let v1237 : BitVec 1 := Scalar.cmpi .eq c32_i32_774 c0_i32_775
  let c1_i32_776 : BitVec 32 := 1#32
  let v1238 : BitVec 32 := Scalar.select v1237 c1_i32_776 c32_i32_774
  let v1239 : BitVec 32 := Scalar.remsi v1236 v1238
  let c0_i32_778 : BitVec 32 := 0#32
  let v1241 : BitVec 1 := Scalar.cmpi .slt v1239 c0_i32_778
  let c0_i32_779 : BitVec 32 := 0#32
  let v1242 : BitVec 1 := Scalar.cmpi .slt v1238 c0_i32_779
  let v1243 : BitVec 1 := Scalar.xori v1241 v1242
  let c0_i32_777 : BitVec 32 := 0#32
  let v1240 : BitVec 1 := Scalar.cmpi .ne v1239 c0_i32_777
  let v1244 : BitVec 1 := Scalar.andi v1243 v1240
  let v1245 : BitVec 32 := Scalar.addi v1239 v1238
  let v1246 : BitVec 32 := Scalar.select v1244 v1245 v1239
  ![v1246.toNat]
def k0_off7 (d0 : Dev nD) (c1_i32_773 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1236 : BitVec 32 := Scalar.addi v2 c1_i32_773
  let c32_i32_774 : BitVec 32 := 32#32
  let c0_i32_775 : BitVec 32 := 0#32
  let v1237 : BitVec 1 := Scalar.cmpi .eq c32_i32_774 c0_i32_775
  let c1_i32_776 : BitVec 32 := 1#32
  let v1238 : BitVec 32 := Scalar.select v1237 c1_i32_776 c32_i32_774
  let v1239 : BitVec 32 := Scalar.remsi v1236 v1238
  let c0_i32_778 : BitVec 32 := 0#32
  let v1241 : BitVec 1 := Scalar.cmpi .slt v1239 c0_i32_778
  let c0_i32_779 : BitVec 32 := 0#32
  let v1242 : BitVec 1 := Scalar.cmpi .slt v1238 c0_i32_779
  let v1243 : BitVec 1 := Scalar.xori v1241 v1242
  let c0_i32_777 : BitVec 32 := 0#32
  let v1240 : BitVec 1 := Scalar.cmpi .ne v1239 c0_i32_777
  let v1244 : BitVec 1 := Scalar.andi v1243 v1240
  let v1245 : BitVec 32 := Scalar.addi v1239 v1238
  let v1246 : BitVec 32 := Scalar.select v1244 v1245 v1239
  let c0_i32_783 : BitVec 32 := 0#32
  let c0_i32_784 : BitVec 32 := 0#32
  ![v1246.toNat, 0, 0]
def k0_dev63 (d0 : Dev nD) : Nat :=
  let c0_i32_1226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1217 : BitVec 32 := 1#32
  let v1806 : BitVec 32 := Scalar.addi v2 c1_i32_1217
  let c32_i32_1218 : BitVec 32 := 32#32
  let c0_i32_1219 : BitVec 32 := 0#32
  let v1807 : BitVec 1 := Scalar.cmpi .eq c32_i32_1218 c0_i32_1219
  let c1_i32_1220 : BitVec 32 := 1#32
  let v1808 : BitVec 32 := Scalar.select v1807 c1_i32_1220 c32_i32_1218
  let v1809 : BitVec 32 := Scalar.remsi v1806 v1808
  let c0_i32_1222 : BitVec 32 := 0#32
  let v1811 : BitVec 1 := Scalar.cmpi .slt v1809 c0_i32_1222
  let c0_i32_1223 : BitVec 32 := 0#32
  let v1812 : BitVec 1 := Scalar.cmpi .slt v1808 c0_i32_1223
  let v1813 : BitVec 1 := Scalar.xori v1811 v1812
  let c0_i32_1221 : BitVec 32 := 0#32
  let v1810 : BitVec 1 := Scalar.cmpi .ne v1809 c0_i32_1221
  let v1814 : BitVec 1 := Scalar.andi v1813 v1810
  let v1815 : BitVec 32 := Scalar.addi v1809 v1808
  let v1816 : BitVec 32 := Scalar.select v1814 v1815 v1809
  let c1_i32_1225 : BitVec 32 := 1#32
  let v1817 : BitVec 32 := Scalar.muli v1816 c1_i32_1225
  let v1818 : BitVec 32 := Scalar.addi c0_i32_1226 v1817
  v1818.toNat
def k0_dev64 (d0 : Dev nD) : Nat :=
  let c0_i32_1238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1229 : BitVec 32 := 2#32
  let v1825 : BitVec 32 := Scalar.addi v2 c2_i32_1229
  let c32_i32_1230 : BitVec 32 := 32#32
  let c0_i32_1231 : BitVec 32 := 0#32
  let v1826 : BitVec 1 := Scalar.cmpi .eq c32_i32_1230 c0_i32_1231
  let c1_i32_1232 : BitVec 32 := 1#32
  let v1827 : BitVec 32 := Scalar.select v1826 c1_i32_1232 c32_i32_1230
  let v1828 : BitVec 32 := Scalar.remsi v1825 v1827
  let c0_i32_1234 : BitVec 32 := 0#32
  let v1830 : BitVec 1 := Scalar.cmpi .slt v1828 c0_i32_1234
  let c0_i32_1235 : BitVec 32 := 0#32
  let v1831 : BitVec 1 := Scalar.cmpi .slt v1827 c0_i32_1235
  let v1832 : BitVec 1 := Scalar.xori v1830 v1831
  let c0_i32_1233 : BitVec 32 := 0#32
  let v1829 : BitVec 1 := Scalar.cmpi .ne v1828 c0_i32_1233
  let v1833 : BitVec 1 := Scalar.andi v1832 v1829
  let v1834 : BitVec 32 := Scalar.addi v1828 v1827
  let v1835 : BitVec 32 := Scalar.select v1833 v1834 v1828
  let c1_i32_1237 : BitVec 32 := 1#32
  let v1836 : BitVec 32 := Scalar.muli v1835 c1_i32_1237
  let v1837 : BitVec 32 := Scalar.addi c0_i32_1238 v1836
  v1837.toNat
def k0_dev65 (d0 : Dev nD) : Nat :=
  let c0_i32_1250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1241 : BitVec 32 := 3#32
  let v1844 : BitVec 32 := Scalar.addi v2 c3_i32_1241
  let c32_i32_1242 : BitVec 32 := 32#32
  let c0_i32_1243 : BitVec 32 := 0#32
  let v1845 : BitVec 1 := Scalar.cmpi .eq c32_i32_1242 c0_i32_1243
  let c1_i32_1244 : BitVec 32 := 1#32
  let v1846 : BitVec 32 := Scalar.select v1845 c1_i32_1244 c32_i32_1242
  let v1847 : BitVec 32 := Scalar.remsi v1844 v1846
  let c0_i32_1246 : BitVec 32 := 0#32
  let v1849 : BitVec 1 := Scalar.cmpi .slt v1847 c0_i32_1246
  let c0_i32_1247 : BitVec 32 := 0#32
  let v1850 : BitVec 1 := Scalar.cmpi .slt v1846 c0_i32_1247
  let v1851 : BitVec 1 := Scalar.xori v1849 v1850
  let c0_i32_1245 : BitVec 32 := 0#32
  let v1848 : BitVec 1 := Scalar.cmpi .ne v1847 c0_i32_1245
  let v1852 : BitVec 1 := Scalar.andi v1851 v1848
  let v1853 : BitVec 32 := Scalar.addi v1847 v1846
  let v1854 : BitVec 32 := Scalar.select v1852 v1853 v1847
  let c1_i32_1249 : BitVec 32 := 1#32
  let v1855 : BitVec 32 := Scalar.muli v1854 c1_i32_1249
  let v1856 : BitVec 32 := Scalar.addi c0_i32_1250 v1855
  v1856.toNat
def k0_dev66 (d0 : Dev nD) : Nat :=
  let c0_i32_1262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1253 : BitVec 32 := 4#32
  let v1863 : BitVec 32 := Scalar.addi v2 c4_i32_1253
  let c32_i32_1254 : BitVec 32 := 32#32
  let c0_i32_1255 : BitVec 32 := 0#32
  let v1864 : BitVec 1 := Scalar.cmpi .eq c32_i32_1254 c0_i32_1255
  let c1_i32_1256 : BitVec 32 := 1#32
  let v1865 : BitVec 32 := Scalar.select v1864 c1_i32_1256 c32_i32_1254
  let v1866 : BitVec 32 := Scalar.remsi v1863 v1865
  let c0_i32_1258 : BitVec 32 := 0#32
  let v1868 : BitVec 1 := Scalar.cmpi .slt v1866 c0_i32_1258
  let c0_i32_1259 : BitVec 32 := 0#32
  let v1869 : BitVec 1 := Scalar.cmpi .slt v1865 c0_i32_1259
  let v1870 : BitVec 1 := Scalar.xori v1868 v1869
  let c0_i32_1257 : BitVec 32 := 0#32
  let v1867 : BitVec 1 := Scalar.cmpi .ne v1866 c0_i32_1257
  let v1871 : BitVec 1 := Scalar.andi v1870 v1867
  let v1872 : BitVec 32 := Scalar.addi v1866 v1865
  let v1873 : BitVec 32 := Scalar.select v1871 v1872 v1866
  let c1_i32_1261 : BitVec 32 := 1#32
  let v1874 : BitVec 32 := Scalar.muli v1873 c1_i32_1261
  let v1875 : BitVec 32 := Scalar.addi c0_i32_1262 v1874
  v1875.toNat
def k0_dev67 (d0 : Dev nD) : Nat :=
  let c0_i32_1274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1265 : BitVec 32 := 5#32
  let v1882 : BitVec 32 := Scalar.addi v2 c5_i32_1265
  let c32_i32_1266 : BitVec 32 := 32#32
  let c0_i32_1267 : BitVec 32 := 0#32
  let v1883 : BitVec 1 := Scalar.cmpi .eq c32_i32_1266 c0_i32_1267
  let c1_i32_1268 : BitVec 32 := 1#32
  let v1884 : BitVec 32 := Scalar.select v1883 c1_i32_1268 c32_i32_1266
  let v1885 : BitVec 32 := Scalar.remsi v1882 v1884
  let c0_i32_1270 : BitVec 32 := 0#32
  let v1887 : BitVec 1 := Scalar.cmpi .slt v1885 c0_i32_1270
  let c0_i32_1271 : BitVec 32 := 0#32
  let v1888 : BitVec 1 := Scalar.cmpi .slt v1884 c0_i32_1271
  let v1889 : BitVec 1 := Scalar.xori v1887 v1888
  let c0_i32_1269 : BitVec 32 := 0#32
  let v1886 : BitVec 1 := Scalar.cmpi .ne v1885 c0_i32_1269
  let v1890 : BitVec 1 := Scalar.andi v1889 v1886
  let v1891 : BitVec 32 := Scalar.addi v1885 v1884
  let v1892 : BitVec 32 := Scalar.select v1890 v1891 v1885
  let c1_i32_1273 : BitVec 32 := 1#32
  let v1893 : BitVec 32 := Scalar.muli v1892 c1_i32_1273
  let v1894 : BitVec 32 := Scalar.addi c0_i32_1274 v1893
  v1894.toNat
def k0_dev68 (d0 : Dev nD) : Nat :=
  let c0_i32_1286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1277 : BitVec 32 := 6#32
  let v1901 : BitVec 32 := Scalar.addi v2 c6_i32_1277
  let c32_i32_1278 : BitVec 32 := 32#32
  let c0_i32_1279 : BitVec 32 := 0#32
  let v1902 : BitVec 1 := Scalar.cmpi .eq c32_i32_1278 c0_i32_1279
  let c1_i32_1280 : BitVec 32 := 1#32
  let v1903 : BitVec 32 := Scalar.select v1902 c1_i32_1280 c32_i32_1278
  let v1904 : BitVec 32 := Scalar.remsi v1901 v1903
  let c0_i32_1282 : BitVec 32 := 0#32
  let v1906 : BitVec 1 := Scalar.cmpi .slt v1904 c0_i32_1282
  let c0_i32_1283 : BitVec 32 := 0#32
  let v1907 : BitVec 1 := Scalar.cmpi .slt v1903 c0_i32_1283
  let v1908 : BitVec 1 := Scalar.xori v1906 v1907
  let c0_i32_1281 : BitVec 32 := 0#32
  let v1905 : BitVec 1 := Scalar.cmpi .ne v1904 c0_i32_1281
  let v1909 : BitVec 1 := Scalar.andi v1908 v1905
  let v1910 : BitVec 32 := Scalar.addi v1904 v1903
  let v1911 : BitVec 32 := Scalar.select v1909 v1910 v1904
  let c1_i32_1285 : BitVec 32 := 1#32
  let v1912 : BitVec 32 := Scalar.muli v1911 c1_i32_1285
  let v1913 : BitVec 32 := Scalar.addi c0_i32_1286 v1912
  v1913.toNat
def k0_dev69 (d0 : Dev nD) : Nat :=
  let c0_i32_1298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1289 : BitVec 32 := 7#32
  let v1920 : BitVec 32 := Scalar.addi v2 c7_i32_1289
  let c32_i32_1290 : BitVec 32 := 32#32
  let c0_i32_1291 : BitVec 32 := 0#32
  let v1921 : BitVec 1 := Scalar.cmpi .eq c32_i32_1290 c0_i32_1291
  let c1_i32_1292 : BitVec 32 := 1#32
  let v1922 : BitVec 32 := Scalar.select v1921 c1_i32_1292 c32_i32_1290
  let v1923 : BitVec 32 := Scalar.remsi v1920 v1922
  let c0_i32_1294 : BitVec 32 := 0#32
  let v1925 : BitVec 1 := Scalar.cmpi .slt v1923 c0_i32_1294
  let c0_i32_1295 : BitVec 32 := 0#32
  let v1926 : BitVec 1 := Scalar.cmpi .slt v1922 c0_i32_1295
  let v1927 : BitVec 1 := Scalar.xori v1925 v1926
  let c0_i32_1293 : BitVec 32 := 0#32
  let v1924 : BitVec 1 := Scalar.cmpi .ne v1923 c0_i32_1293
  let v1928 : BitVec 1 := Scalar.andi v1927 v1924
  let v1929 : BitVec 32 := Scalar.addi v1923 v1922
  let v1930 : BitVec 32 := Scalar.select v1928 v1929 v1923
  let c1_i32_1297 : BitVec 32 := 1#32
  let v1931 : BitVec 32 := Scalar.muli v1930 c1_i32_1297
  let v1932 : BitVec 32 := Scalar.addi c0_i32_1298 v1931
  v1932.toNat
def k0_dev70 (d0 : Dev nD) : Nat :=
  let c0_i32_1310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1301 : BitVec 32 := 8#32
  let v1939 : BitVec 32 := Scalar.addi v2 c8_i32_1301
  let c32_i32_1302 : BitVec 32 := 32#32
  let c0_i32_1303 : BitVec 32 := 0#32
  let v1940 : BitVec 1 := Scalar.cmpi .eq c32_i32_1302 c0_i32_1303
  let c1_i32_1304 : BitVec 32 := 1#32
  let v1941 : BitVec 32 := Scalar.select v1940 c1_i32_1304 c32_i32_1302
  let v1942 : BitVec 32 := Scalar.remsi v1939 v1941
  let c0_i32_1306 : BitVec 32 := 0#32
  let v1944 : BitVec 1 := Scalar.cmpi .slt v1942 c0_i32_1306
  let c0_i32_1307 : BitVec 32 := 0#32
  let v1945 : BitVec 1 := Scalar.cmpi .slt v1941 c0_i32_1307
  let v1946 : BitVec 1 := Scalar.xori v1944 v1945
  let c0_i32_1305 : BitVec 32 := 0#32
  let v1943 : BitVec 1 := Scalar.cmpi .ne v1942 c0_i32_1305
  let v1947 : BitVec 1 := Scalar.andi v1946 v1943
  let v1948 : BitVec 32 := Scalar.addi v1942 v1941
  let v1949 : BitVec 32 := Scalar.select v1947 v1948 v1942
  let c1_i32_1309 : BitVec 32 := 1#32
  let v1950 : BitVec 32 := Scalar.muli v1949 c1_i32_1309
  let v1951 : BitVec 32 := Scalar.addi c0_i32_1310 v1950
  v1951.toNat
def k0_dev71 (d0 : Dev nD) : Nat :=
  let c0_i32_1322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1313 : BitVec 32 := 9#32
  let v1958 : BitVec 32 := Scalar.addi v2 c9_i32_1313
  let c32_i32_1314 : BitVec 32 := 32#32
  let c0_i32_1315 : BitVec 32 := 0#32
  let v1959 : BitVec 1 := Scalar.cmpi .eq c32_i32_1314 c0_i32_1315
  let c1_i32_1316 : BitVec 32 := 1#32
  let v1960 : BitVec 32 := Scalar.select v1959 c1_i32_1316 c32_i32_1314
  let v1961 : BitVec 32 := Scalar.remsi v1958 v1960
  let c0_i32_1318 : BitVec 32 := 0#32
  let v1963 : BitVec 1 := Scalar.cmpi .slt v1961 c0_i32_1318
  let c0_i32_1319 : BitVec 32 := 0#32
  let v1964 : BitVec 1 := Scalar.cmpi .slt v1960 c0_i32_1319
  let v1965 : BitVec 1 := Scalar.xori v1963 v1964
  let c0_i32_1317 : BitVec 32 := 0#32
  let v1962 : BitVec 1 := Scalar.cmpi .ne v1961 c0_i32_1317
  let v1966 : BitVec 1 := Scalar.andi v1965 v1962
  let v1967 : BitVec 32 := Scalar.addi v1961 v1960
  let v1968 : BitVec 32 := Scalar.select v1966 v1967 v1961
  let c1_i32_1321 : BitVec 32 := 1#32
  let v1969 : BitVec 32 := Scalar.muli v1968 c1_i32_1321
  let v1970 : BitVec 32 := Scalar.addi c0_i32_1322 v1969
  v1970.toNat
def k0_dev72 (d0 : Dev nD) : Nat :=
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1325 : BitVec 32 := 10#32
  let v1977 : BitVec 32 := Scalar.addi v2 c10_i32_1325
  let c32_i32_1326 : BitVec 32 := 32#32
  let c0_i32_1327 : BitVec 32 := 0#32
  let v1978 : BitVec 1 := Scalar.cmpi .eq c32_i32_1326 c0_i32_1327
  let c1_i32_1328 : BitVec 32 := 1#32
  let v1979 : BitVec 32 := Scalar.select v1978 c1_i32_1328 c32_i32_1326
  let v1980 : BitVec 32 := Scalar.remsi v1977 v1979
  let c0_i32_1330 : BitVec 32 := 0#32
  let v1982 : BitVec 1 := Scalar.cmpi .slt v1980 c0_i32_1330
  let c0_i32_1331 : BitVec 32 := 0#32
  let v1983 : BitVec 1 := Scalar.cmpi .slt v1979 c0_i32_1331
  let v1984 : BitVec 1 := Scalar.xori v1982 v1983
  let c0_i32_1329 : BitVec 32 := 0#32
  let v1981 : BitVec 1 := Scalar.cmpi .ne v1980 c0_i32_1329
  let v1985 : BitVec 1 := Scalar.andi v1984 v1981
  let v1986 : BitVec 32 := Scalar.addi v1980 v1979
  let v1987 : BitVec 32 := Scalar.select v1985 v1986 v1980
  let c1_i32_1333 : BitVec 32 := 1#32
  let v1988 : BitVec 32 := Scalar.muli v1987 c1_i32_1333
  let v1989 : BitVec 32 := Scalar.addi c0_i32_1334 v1988
  v1989.toNat
def k0_dev73 (d0 : Dev nD) : Nat :=
  let c0_i32_1346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1337 : BitVec 32 := 11#32
  let v1996 : BitVec 32 := Scalar.addi v2 c11_i32_1337
  let c32_i32_1338 : BitVec 32 := 32#32
  let c0_i32_1339 : BitVec 32 := 0#32
  let v1997 : BitVec 1 := Scalar.cmpi .eq c32_i32_1338 c0_i32_1339
  let c1_i32_1340 : BitVec 32 := 1#32
  let v1998 : BitVec 32 := Scalar.select v1997 c1_i32_1340 c32_i32_1338
  let v1999 : BitVec 32 := Scalar.remsi v1996 v1998
  let c0_i32_1342 : BitVec 32 := 0#32
  let v2001 : BitVec 1 := Scalar.cmpi .slt v1999 c0_i32_1342
  let c0_i32_1343 : BitVec 32 := 0#32
  let v2002 : BitVec 1 := Scalar.cmpi .slt v1998 c0_i32_1343
  let v2003 : BitVec 1 := Scalar.xori v2001 v2002
  let c0_i32_1341 : BitVec 32 := 0#32
  let v2000 : BitVec 1 := Scalar.cmpi .ne v1999 c0_i32_1341
  let v2004 : BitVec 1 := Scalar.andi v2003 v2000
  let v2005 : BitVec 32 := Scalar.addi v1999 v1998
  let v2006 : BitVec 32 := Scalar.select v2004 v2005 v1999
  let c1_i32_1345 : BitVec 32 := 1#32
  let v2007 : BitVec 32 := Scalar.muli v2006 c1_i32_1345
  let v2008 : BitVec 32 := Scalar.addi c0_i32_1346 v2007
  v2008.toNat
def k0_dev74 (d0 : Dev nD) : Nat :=
  let c0_i32_1358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1349 : BitVec 32 := 12#32
  let v2015 : BitVec 32 := Scalar.addi v2 c12_i32_1349
  let c32_i32_1350 : BitVec 32 := 32#32
  let c0_i32_1351 : BitVec 32 := 0#32
  let v2016 : BitVec 1 := Scalar.cmpi .eq c32_i32_1350 c0_i32_1351
  let c1_i32_1352 : BitVec 32 := 1#32
  let v2017 : BitVec 32 := Scalar.select v2016 c1_i32_1352 c32_i32_1350
  let v2018 : BitVec 32 := Scalar.remsi v2015 v2017
  let c0_i32_1354 : BitVec 32 := 0#32
  let v2020 : BitVec 1 := Scalar.cmpi .slt v2018 c0_i32_1354
  let c0_i32_1355 : BitVec 32 := 0#32
  let v2021 : BitVec 1 := Scalar.cmpi .slt v2017 c0_i32_1355
  let v2022 : BitVec 1 := Scalar.xori v2020 v2021
  let c0_i32_1353 : BitVec 32 := 0#32
  let v2019 : BitVec 1 := Scalar.cmpi .ne v2018 c0_i32_1353
  let v2023 : BitVec 1 := Scalar.andi v2022 v2019
  let v2024 : BitVec 32 := Scalar.addi v2018 v2017
  let v2025 : BitVec 32 := Scalar.select v2023 v2024 v2018
  let c1_i32_1357 : BitVec 32 := 1#32
  let v2026 : BitVec 32 := Scalar.muli v2025 c1_i32_1357
  let v2027 : BitVec 32 := Scalar.addi c0_i32_1358 v2026
  v2027.toNat
def k0_dev75 (d0 : Dev nD) : Nat :=
  let c0_i32_1370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1361 : BitVec 32 := 13#32
  let v2034 : BitVec 32 := Scalar.addi v2 c13_i32_1361
  let c32_i32_1362 : BitVec 32 := 32#32
  let c0_i32_1363 : BitVec 32 := 0#32
  let v2035 : BitVec 1 := Scalar.cmpi .eq c32_i32_1362 c0_i32_1363
  let c1_i32_1364 : BitVec 32 := 1#32
  let v2036 : BitVec 32 := Scalar.select v2035 c1_i32_1364 c32_i32_1362
  let v2037 : BitVec 32 := Scalar.remsi v2034 v2036
  let c0_i32_1366 : BitVec 32 := 0#32
  let v2039 : BitVec 1 := Scalar.cmpi .slt v2037 c0_i32_1366
  let c0_i32_1367 : BitVec 32 := 0#32
  let v2040 : BitVec 1 := Scalar.cmpi .slt v2036 c0_i32_1367
  let v2041 : BitVec 1 := Scalar.xori v2039 v2040
  let c0_i32_1365 : BitVec 32 := 0#32
  let v2038 : BitVec 1 := Scalar.cmpi .ne v2037 c0_i32_1365
  let v2042 : BitVec 1 := Scalar.andi v2041 v2038
  let v2043 : BitVec 32 := Scalar.addi v2037 v2036
  let v2044 : BitVec 32 := Scalar.select v2042 v2043 v2037
  let c1_i32_1369 : BitVec 32 := 1#32
  let v2045 : BitVec 32 := Scalar.muli v2044 c1_i32_1369
  let v2046 : BitVec 32 := Scalar.addi c0_i32_1370 v2045
  v2046.toNat
def k0_dev76 (d0 : Dev nD) : Nat :=
  let c0_i32_1382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1373 : BitVec 32 := 14#32
  let v2053 : BitVec 32 := Scalar.addi v2 c14_i32_1373
  let c32_i32_1374 : BitVec 32 := 32#32
  let c0_i32_1375 : BitVec 32 := 0#32
  let v2054 : BitVec 1 := Scalar.cmpi .eq c32_i32_1374 c0_i32_1375
  let c1_i32_1376 : BitVec 32 := 1#32
  let v2055 : BitVec 32 := Scalar.select v2054 c1_i32_1376 c32_i32_1374
  let v2056 : BitVec 32 := Scalar.remsi v2053 v2055
  let c0_i32_1378 : BitVec 32 := 0#32
  let v2058 : BitVec 1 := Scalar.cmpi .slt v2056 c0_i32_1378
  let c0_i32_1379 : BitVec 32 := 0#32
  let v2059 : BitVec 1 := Scalar.cmpi .slt v2055 c0_i32_1379
  let v2060 : BitVec 1 := Scalar.xori v2058 v2059
  let c0_i32_1377 : BitVec 32 := 0#32
  let v2057 : BitVec 1 := Scalar.cmpi .ne v2056 c0_i32_1377
  let v2061 : BitVec 1 := Scalar.andi v2060 v2057
  let v2062 : BitVec 32 := Scalar.addi v2056 v2055
  let v2063 : BitVec 32 := Scalar.select v2061 v2062 v2056
  let c1_i32_1381 : BitVec 32 := 1#32
  let v2064 : BitVec 32 := Scalar.muli v2063 c1_i32_1381
  let v2065 : BitVec 32 := Scalar.addi c0_i32_1382 v2064
  v2065.toNat
def k0_dev77 (d0 : Dev nD) : Nat :=
  let c0_i32_1394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1385 : BitVec 32 := 15#32
  let v2072 : BitVec 32 := Scalar.addi v2 c15_i32_1385
  let c32_i32_1386 : BitVec 32 := 32#32
  let c0_i32_1387 : BitVec 32 := 0#32
  let v2073 : BitVec 1 := Scalar.cmpi .eq c32_i32_1386 c0_i32_1387
  let c1_i32_1388 : BitVec 32 := 1#32
  let v2074 : BitVec 32 := Scalar.select v2073 c1_i32_1388 c32_i32_1386
  let v2075 : BitVec 32 := Scalar.remsi v2072 v2074
  let c0_i32_1390 : BitVec 32 := 0#32
  let v2077 : BitVec 1 := Scalar.cmpi .slt v2075 c0_i32_1390
  let c0_i32_1391 : BitVec 32 := 0#32
  let v2078 : BitVec 1 := Scalar.cmpi .slt v2074 c0_i32_1391
  let v2079 : BitVec 1 := Scalar.xori v2077 v2078
  let c0_i32_1389 : BitVec 32 := 0#32
  let v2076 : BitVec 1 := Scalar.cmpi .ne v2075 c0_i32_1389
  let v2080 : BitVec 1 := Scalar.andi v2079 v2076
  let v2081 : BitVec 32 := Scalar.addi v2075 v2074
  let v2082 : BitVec 32 := Scalar.select v2080 v2081 v2075
  let c1_i32_1393 : BitVec 32 := 1#32
  let v2083 : BitVec 32 := Scalar.muli v2082 c1_i32_1393
  let v2084 : BitVec 32 := Scalar.addi c0_i32_1394 v2083
  v2084.toNat
def k0_dev78 (d0 : Dev nD) : Nat :=
  let c0_i32_1406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1397 : BitVec 32 := 16#32
  let v2091 : BitVec 32 := Scalar.addi v2 c16_i32_1397
  let c32_i32_1398 : BitVec 32 := 32#32
  let c0_i32_1399 : BitVec 32 := 0#32
  let v2092 : BitVec 1 := Scalar.cmpi .eq c32_i32_1398 c0_i32_1399
  let c1_i32_1400 : BitVec 32 := 1#32
  let v2093 : BitVec 32 := Scalar.select v2092 c1_i32_1400 c32_i32_1398
  let v2094 : BitVec 32 := Scalar.remsi v2091 v2093
  let c0_i32_1402 : BitVec 32 := 0#32
  let v2096 : BitVec 1 := Scalar.cmpi .slt v2094 c0_i32_1402
  let c0_i32_1403 : BitVec 32 := 0#32
  let v2097 : BitVec 1 := Scalar.cmpi .slt v2093 c0_i32_1403
  let v2098 : BitVec 1 := Scalar.xori v2096 v2097
  let c0_i32_1401 : BitVec 32 := 0#32
  let v2095 : BitVec 1 := Scalar.cmpi .ne v2094 c0_i32_1401
  let v2099 : BitVec 1 := Scalar.andi v2098 v2095
  let v2100 : BitVec 32 := Scalar.addi v2094 v2093
  let v2101 : BitVec 32 := Scalar.select v2099 v2100 v2094
  let c1_i32_1405 : BitVec 32 := 1#32
  let v2102 : BitVec 32 := Scalar.muli v2101 c1_i32_1405
  let v2103 : BitVec 32 := Scalar.addi c0_i32_1406 v2102
  v2103.toNat
def k0_dev79 (d0 : Dev nD) : Nat :=
  let c0_i32_1418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1409 : BitVec 32 := 17#32
  let v2110 : BitVec 32 := Scalar.addi v2 c17_i32_1409
  let c32_i32_1410 : BitVec 32 := 32#32
  let c0_i32_1411 : BitVec 32 := 0#32
  let v2111 : BitVec 1 := Scalar.cmpi .eq c32_i32_1410 c0_i32_1411
  let c1_i32_1412 : BitVec 32 := 1#32
  let v2112 : BitVec 32 := Scalar.select v2111 c1_i32_1412 c32_i32_1410
  let v2113 : BitVec 32 := Scalar.remsi v2110 v2112
  let c0_i32_1414 : BitVec 32 := 0#32
  let v2115 : BitVec 1 := Scalar.cmpi .slt v2113 c0_i32_1414
  let c0_i32_1415 : BitVec 32 := 0#32
  let v2116 : BitVec 1 := Scalar.cmpi .slt v2112 c0_i32_1415
  let v2117 : BitVec 1 := Scalar.xori v2115 v2116
  let c0_i32_1413 : BitVec 32 := 0#32
  let v2114 : BitVec 1 := Scalar.cmpi .ne v2113 c0_i32_1413
  let v2118 : BitVec 1 := Scalar.andi v2117 v2114
  let v2119 : BitVec 32 := Scalar.addi v2113 v2112
  let v2120 : BitVec 32 := Scalar.select v2118 v2119 v2113
  let c1_i32_1417 : BitVec 32 := 1#32
  let v2121 : BitVec 32 := Scalar.muli v2120 c1_i32_1417
  let v2122 : BitVec 32 := Scalar.addi c0_i32_1418 v2121
  v2122.toNat
def k0_dev80 (d0 : Dev nD) : Nat :=
  let c0_i32_1430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1421 : BitVec 32 := 18#32
  let v2129 : BitVec 32 := Scalar.addi v2 c18_i32_1421
  let c32_i32_1422 : BitVec 32 := 32#32
  let c0_i32_1423 : BitVec 32 := 0#32
  let v2130 : BitVec 1 := Scalar.cmpi .eq c32_i32_1422 c0_i32_1423
  let c1_i32_1424 : BitVec 32 := 1#32
  let v2131 : BitVec 32 := Scalar.select v2130 c1_i32_1424 c32_i32_1422
  let v2132 : BitVec 32 := Scalar.remsi v2129 v2131
  let c0_i32_1426 : BitVec 32 := 0#32
  let v2134 : BitVec 1 := Scalar.cmpi .slt v2132 c0_i32_1426
  let c0_i32_1427 : BitVec 32 := 0#32
  let v2135 : BitVec 1 := Scalar.cmpi .slt v2131 c0_i32_1427
  let v2136 : BitVec 1 := Scalar.xori v2134 v2135
  let c0_i32_1425 : BitVec 32 := 0#32
  let v2133 : BitVec 1 := Scalar.cmpi .ne v2132 c0_i32_1425
  let v2137 : BitVec 1 := Scalar.andi v2136 v2133
  let v2138 : BitVec 32 := Scalar.addi v2132 v2131
  let v2139 : BitVec 32 := Scalar.select v2137 v2138 v2132
  let c1_i32_1429 : BitVec 32 := 1#32
  let v2140 : BitVec 32 := Scalar.muli v2139 c1_i32_1429
  let v2141 : BitVec 32 := Scalar.addi c0_i32_1430 v2140
  v2141.toNat
def k0_dev81 (d0 : Dev nD) : Nat :=
  let c0_i32_1442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1433 : BitVec 32 := 19#32
  let v2148 : BitVec 32 := Scalar.addi v2 c19_i32_1433
  let c32_i32_1434 : BitVec 32 := 32#32
  let c0_i32_1435 : BitVec 32 := 0#32
  let v2149 : BitVec 1 := Scalar.cmpi .eq c32_i32_1434 c0_i32_1435
  let c1_i32_1436 : BitVec 32 := 1#32
  let v2150 : BitVec 32 := Scalar.select v2149 c1_i32_1436 c32_i32_1434
  let v2151 : BitVec 32 := Scalar.remsi v2148 v2150
  let c0_i32_1438 : BitVec 32 := 0#32
  let v2153 : BitVec 1 := Scalar.cmpi .slt v2151 c0_i32_1438
  let c0_i32_1439 : BitVec 32 := 0#32
  let v2154 : BitVec 1 := Scalar.cmpi .slt v2150 c0_i32_1439
  let v2155 : BitVec 1 := Scalar.xori v2153 v2154
  let c0_i32_1437 : BitVec 32 := 0#32
  let v2152 : BitVec 1 := Scalar.cmpi .ne v2151 c0_i32_1437
  let v2156 : BitVec 1 := Scalar.andi v2155 v2152
  let v2157 : BitVec 32 := Scalar.addi v2151 v2150
  let v2158 : BitVec 32 := Scalar.select v2156 v2157 v2151
  let c1_i32_1441 : BitVec 32 := 1#32
  let v2159 : BitVec 32 := Scalar.muli v2158 c1_i32_1441
  let v2160 : BitVec 32 := Scalar.addi c0_i32_1442 v2159
  v2160.toNat
def k0_dev82 (d0 : Dev nD) : Nat :=
  let c0_i32_1454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1445 : BitVec 32 := 20#32
  let v2167 : BitVec 32 := Scalar.addi v2 c20_i32_1445
  let c32_i32_1446 : BitVec 32 := 32#32
  let c0_i32_1447 : BitVec 32 := 0#32
  let v2168 : BitVec 1 := Scalar.cmpi .eq c32_i32_1446 c0_i32_1447
  let c1_i32_1448 : BitVec 32 := 1#32
  let v2169 : BitVec 32 := Scalar.select v2168 c1_i32_1448 c32_i32_1446
  let v2170 : BitVec 32 := Scalar.remsi v2167 v2169
  let c0_i32_1450 : BitVec 32 := 0#32
  let v2172 : BitVec 1 := Scalar.cmpi .slt v2170 c0_i32_1450
  let c0_i32_1451 : BitVec 32 := 0#32
  let v2173 : BitVec 1 := Scalar.cmpi .slt v2169 c0_i32_1451
  let v2174 : BitVec 1 := Scalar.xori v2172 v2173
  let c0_i32_1449 : BitVec 32 := 0#32
  let v2171 : BitVec 1 := Scalar.cmpi .ne v2170 c0_i32_1449
  let v2175 : BitVec 1 := Scalar.andi v2174 v2171
  let v2176 : BitVec 32 := Scalar.addi v2170 v2169
  let v2177 : BitVec 32 := Scalar.select v2175 v2176 v2170
  let c1_i32_1453 : BitVec 32 := 1#32
  let v2178 : BitVec 32 := Scalar.muli v2177 c1_i32_1453
  let v2179 : BitVec 32 := Scalar.addi c0_i32_1454 v2178
  v2179.toNat
def k0_dev83 (d0 : Dev nD) : Nat :=
  let c0_i32_1466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1457 : BitVec 32 := 21#32
  let v2186 : BitVec 32 := Scalar.addi v2 c21_i32_1457
  let c32_i32_1458 : BitVec 32 := 32#32
  let c0_i32_1459 : BitVec 32 := 0#32
  let v2187 : BitVec 1 := Scalar.cmpi .eq c32_i32_1458 c0_i32_1459
  let c1_i32_1460 : BitVec 32 := 1#32
  let v2188 : BitVec 32 := Scalar.select v2187 c1_i32_1460 c32_i32_1458
  let v2189 : BitVec 32 := Scalar.remsi v2186 v2188
  let c0_i32_1462 : BitVec 32 := 0#32
  let v2191 : BitVec 1 := Scalar.cmpi .slt v2189 c0_i32_1462
  let c0_i32_1463 : BitVec 32 := 0#32
  let v2192 : BitVec 1 := Scalar.cmpi .slt v2188 c0_i32_1463
  let v2193 : BitVec 1 := Scalar.xori v2191 v2192
  let c0_i32_1461 : BitVec 32 := 0#32
  let v2190 : BitVec 1 := Scalar.cmpi .ne v2189 c0_i32_1461
  let v2194 : BitVec 1 := Scalar.andi v2193 v2190
  let v2195 : BitVec 32 := Scalar.addi v2189 v2188
  let v2196 : BitVec 32 := Scalar.select v2194 v2195 v2189
  let c1_i32_1465 : BitVec 32 := 1#32
  let v2197 : BitVec 32 := Scalar.muli v2196 c1_i32_1465
  let v2198 : BitVec 32 := Scalar.addi c0_i32_1466 v2197
  v2198.toNat
def k0_dev84 (d0 : Dev nD) : Nat :=
  let c0_i32_1478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1469 : BitVec 32 := 22#32
  let v2205 : BitVec 32 := Scalar.addi v2 c22_i32_1469
  let c32_i32_1470 : BitVec 32 := 32#32
  let c0_i32_1471 : BitVec 32 := 0#32
  let v2206 : BitVec 1 := Scalar.cmpi .eq c32_i32_1470 c0_i32_1471
  let c1_i32_1472 : BitVec 32 := 1#32
  let v2207 : BitVec 32 := Scalar.select v2206 c1_i32_1472 c32_i32_1470
  let v2208 : BitVec 32 := Scalar.remsi v2205 v2207
  let c0_i32_1474 : BitVec 32 := 0#32
  let v2210 : BitVec 1 := Scalar.cmpi .slt v2208 c0_i32_1474
  let c0_i32_1475 : BitVec 32 := 0#32
  let v2211 : BitVec 1 := Scalar.cmpi .slt v2207 c0_i32_1475
  let v2212 : BitVec 1 := Scalar.xori v2210 v2211
  let c0_i32_1473 : BitVec 32 := 0#32
  let v2209 : BitVec 1 := Scalar.cmpi .ne v2208 c0_i32_1473
  let v2213 : BitVec 1 := Scalar.andi v2212 v2209
  let v2214 : BitVec 32 := Scalar.addi v2208 v2207
  let v2215 : BitVec 32 := Scalar.select v2213 v2214 v2208
  let c1_i32_1477 : BitVec 32 := 1#32
  let v2216 : BitVec 32 := Scalar.muli v2215 c1_i32_1477
  let v2217 : BitVec 32 := Scalar.addi c0_i32_1478 v2216
  v2217.toNat
def k0_dev85 (d0 : Dev nD) : Nat :=
  let c0_i32_1490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1481 : BitVec 32 := 23#32
  let v2224 : BitVec 32 := Scalar.addi v2 c23_i32_1481
  let c32_i32_1482 : BitVec 32 := 32#32
  let c0_i32_1483 : BitVec 32 := 0#32
  let v2225 : BitVec 1 := Scalar.cmpi .eq c32_i32_1482 c0_i32_1483
  let c1_i32_1484 : BitVec 32 := 1#32
  let v2226 : BitVec 32 := Scalar.select v2225 c1_i32_1484 c32_i32_1482
  let v2227 : BitVec 32 := Scalar.remsi v2224 v2226
  let c0_i32_1486 : BitVec 32 := 0#32
  let v2229 : BitVec 1 := Scalar.cmpi .slt v2227 c0_i32_1486
  let c0_i32_1487 : BitVec 32 := 0#32
  let v2230 : BitVec 1 := Scalar.cmpi .slt v2226 c0_i32_1487
  let v2231 : BitVec 1 := Scalar.xori v2229 v2230
  let c0_i32_1485 : BitVec 32 := 0#32
  let v2228 : BitVec 1 := Scalar.cmpi .ne v2227 c0_i32_1485
  let v2232 : BitVec 1 := Scalar.andi v2231 v2228
  let v2233 : BitVec 32 := Scalar.addi v2227 v2226
  let v2234 : BitVec 32 := Scalar.select v2232 v2233 v2227
  let c1_i32_1489 : BitVec 32 := 1#32
  let v2235 : BitVec 32 := Scalar.muli v2234 c1_i32_1489
  let v2236 : BitVec 32 := Scalar.addi c0_i32_1490 v2235
  v2236.toNat
def k0_dev86 (d0 : Dev nD) : Nat :=
  let c0_i32_1502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1493 : BitVec 32 := 24#32
  let v2243 : BitVec 32 := Scalar.addi v2 c24_i32_1493
  let c32_i32_1494 : BitVec 32 := 32#32
  let c0_i32_1495 : BitVec 32 := 0#32
  let v2244 : BitVec 1 := Scalar.cmpi .eq c32_i32_1494 c0_i32_1495
  let c1_i32_1496 : BitVec 32 := 1#32
  let v2245 : BitVec 32 := Scalar.select v2244 c1_i32_1496 c32_i32_1494
  let v2246 : BitVec 32 := Scalar.remsi v2243 v2245
  let c0_i32_1498 : BitVec 32 := 0#32
  let v2248 : BitVec 1 := Scalar.cmpi .slt v2246 c0_i32_1498
  let c0_i32_1499 : BitVec 32 := 0#32
  let v2249 : BitVec 1 := Scalar.cmpi .slt v2245 c0_i32_1499
  let v2250 : BitVec 1 := Scalar.xori v2248 v2249
  let c0_i32_1497 : BitVec 32 := 0#32
  let v2247 : BitVec 1 := Scalar.cmpi .ne v2246 c0_i32_1497
  let v2251 : BitVec 1 := Scalar.andi v2250 v2247
  let v2252 : BitVec 32 := Scalar.addi v2246 v2245
  let v2253 : BitVec 32 := Scalar.select v2251 v2252 v2246
  let c1_i32_1501 : BitVec 32 := 1#32
  let v2254 : BitVec 32 := Scalar.muli v2253 c1_i32_1501
  let v2255 : BitVec 32 := Scalar.addi c0_i32_1502 v2254
  v2255.toNat
def k0_dev87 (d0 : Dev nD) : Nat :=
  let c0_i32_1514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1505 : BitVec 32 := 25#32
  let v2262 : BitVec 32 := Scalar.addi v2 c25_i32_1505
  let c32_i32_1506 : BitVec 32 := 32#32
  let c0_i32_1507 : BitVec 32 := 0#32
  let v2263 : BitVec 1 := Scalar.cmpi .eq c32_i32_1506 c0_i32_1507
  let c1_i32_1508 : BitVec 32 := 1#32
  let v2264 : BitVec 32 := Scalar.select v2263 c1_i32_1508 c32_i32_1506
  let v2265 : BitVec 32 := Scalar.remsi v2262 v2264
  let c0_i32_1510 : BitVec 32 := 0#32
  let v2267 : BitVec 1 := Scalar.cmpi .slt v2265 c0_i32_1510
  let c0_i32_1511 : BitVec 32 := 0#32
  let v2268 : BitVec 1 := Scalar.cmpi .slt v2264 c0_i32_1511
  let v2269 : BitVec 1 := Scalar.xori v2267 v2268
  let c0_i32_1509 : BitVec 32 := 0#32
  let v2266 : BitVec 1 := Scalar.cmpi .ne v2265 c0_i32_1509
  let v2270 : BitVec 1 := Scalar.andi v2269 v2266
  let v2271 : BitVec 32 := Scalar.addi v2265 v2264
  let v2272 : BitVec 32 := Scalar.select v2270 v2271 v2265
  let c1_i32_1513 : BitVec 32 := 1#32
  let v2273 : BitVec 32 := Scalar.muli v2272 c1_i32_1513
  let v2274 : BitVec 32 := Scalar.addi c0_i32_1514 v2273
  v2274.toNat
def k0_dev88 (d0 : Dev nD) : Nat :=
  let c0_i32_1526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1517 : BitVec 32 := 26#32
  let v2281 : BitVec 32 := Scalar.addi v2 c26_i32_1517
  let c32_i32_1518 : BitVec 32 := 32#32
  let c0_i32_1519 : BitVec 32 := 0#32
  let v2282 : BitVec 1 := Scalar.cmpi .eq c32_i32_1518 c0_i32_1519
  let c1_i32_1520 : BitVec 32 := 1#32
  let v2283 : BitVec 32 := Scalar.select v2282 c1_i32_1520 c32_i32_1518
  let v2284 : BitVec 32 := Scalar.remsi v2281 v2283
  let c0_i32_1522 : BitVec 32 := 0#32
  let v2286 : BitVec 1 := Scalar.cmpi .slt v2284 c0_i32_1522
  let c0_i32_1523 : BitVec 32 := 0#32
  let v2287 : BitVec 1 := Scalar.cmpi .slt v2283 c0_i32_1523
  let v2288 : BitVec 1 := Scalar.xori v2286 v2287
  let c0_i32_1521 : BitVec 32 := 0#32
  let v2285 : BitVec 1 := Scalar.cmpi .ne v2284 c0_i32_1521
  let v2289 : BitVec 1 := Scalar.andi v2288 v2285
  let v2290 : BitVec 32 := Scalar.addi v2284 v2283
  let v2291 : BitVec 32 := Scalar.select v2289 v2290 v2284
  let c1_i32_1525 : BitVec 32 := 1#32
  let v2292 : BitVec 32 := Scalar.muli v2291 c1_i32_1525
  let v2293 : BitVec 32 := Scalar.addi c0_i32_1526 v2292
  v2293.toNat
def k0_dev89 (d0 : Dev nD) : Nat :=
  let c0_i32_1538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1529 : BitVec 32 := 27#32
  let v2300 : BitVec 32 := Scalar.addi v2 c27_i32_1529
  let c32_i32_1530 : BitVec 32 := 32#32
  let c0_i32_1531 : BitVec 32 := 0#32
  let v2301 : BitVec 1 := Scalar.cmpi .eq c32_i32_1530 c0_i32_1531
  let c1_i32_1532 : BitVec 32 := 1#32
  let v2302 : BitVec 32 := Scalar.select v2301 c1_i32_1532 c32_i32_1530
  let v2303 : BitVec 32 := Scalar.remsi v2300 v2302
  let c0_i32_1534 : BitVec 32 := 0#32
  let v2305 : BitVec 1 := Scalar.cmpi .slt v2303 c0_i32_1534
  let c0_i32_1535 : BitVec 32 := 0#32
  let v2306 : BitVec 1 := Scalar.cmpi .slt v2302 c0_i32_1535
  let v2307 : BitVec 1 := Scalar.xori v2305 v2306
  let c0_i32_1533 : BitVec 32 := 0#32
  let v2304 : BitVec 1 := Scalar.cmpi .ne v2303 c0_i32_1533
  let v2308 : BitVec 1 := Scalar.andi v2307 v2304
  let v2309 : BitVec 32 := Scalar.addi v2303 v2302
  let v2310 : BitVec 32 := Scalar.select v2308 v2309 v2303
  let c1_i32_1537 : BitVec 32 := 1#32
  let v2311 : BitVec 32 := Scalar.muli v2310 c1_i32_1537
  let v2312 : BitVec 32 := Scalar.addi c0_i32_1538 v2311
  v2312.toNat
def k0_dev90 (d0 : Dev nD) : Nat :=
  let c0_i32_1550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1541 : BitVec 32 := 28#32
  let v2319 : BitVec 32 := Scalar.addi v2 c28_i32_1541
  let c32_i32_1542 : BitVec 32 := 32#32
  let c0_i32_1543 : BitVec 32 := 0#32
  let v2320 : BitVec 1 := Scalar.cmpi .eq c32_i32_1542 c0_i32_1543
  let c1_i32_1544 : BitVec 32 := 1#32
  let v2321 : BitVec 32 := Scalar.select v2320 c1_i32_1544 c32_i32_1542
  let v2322 : BitVec 32 := Scalar.remsi v2319 v2321
  let c0_i32_1546 : BitVec 32 := 0#32
  let v2324 : BitVec 1 := Scalar.cmpi .slt v2322 c0_i32_1546
  let c0_i32_1547 : BitVec 32 := 0#32
  let v2325 : BitVec 1 := Scalar.cmpi .slt v2321 c0_i32_1547
  let v2326 : BitVec 1 := Scalar.xori v2324 v2325
  let c0_i32_1545 : BitVec 32 := 0#32
  let v2323 : BitVec 1 := Scalar.cmpi .ne v2322 c0_i32_1545
  let v2327 : BitVec 1 := Scalar.andi v2326 v2323
  let v2328 : BitVec 32 := Scalar.addi v2322 v2321
  let v2329 : BitVec 32 := Scalar.select v2327 v2328 v2322
  let c1_i32_1549 : BitVec 32 := 1#32
  let v2330 : BitVec 32 := Scalar.muli v2329 c1_i32_1549
  let v2331 : BitVec 32 := Scalar.addi c0_i32_1550 v2330
  v2331.toNat
def k0_dev91 (d0 : Dev nD) : Nat :=
  let c0_i32_1562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1553 : BitVec 32 := 29#32
  let v2338 : BitVec 32 := Scalar.addi v2 c29_i32_1553
  let c32_i32_1554 : BitVec 32 := 32#32
  let c0_i32_1555 : BitVec 32 := 0#32
  let v2339 : BitVec 1 := Scalar.cmpi .eq c32_i32_1554 c0_i32_1555
  let c1_i32_1556 : BitVec 32 := 1#32
  let v2340 : BitVec 32 := Scalar.select v2339 c1_i32_1556 c32_i32_1554
  let v2341 : BitVec 32 := Scalar.remsi v2338 v2340
  let c0_i32_1558 : BitVec 32 := 0#32
  let v2343 : BitVec 1 := Scalar.cmpi .slt v2341 c0_i32_1558
  let c0_i32_1559 : BitVec 32 := 0#32
  let v2344 : BitVec 1 := Scalar.cmpi .slt v2340 c0_i32_1559
  let v2345 : BitVec 1 := Scalar.xori v2343 v2344
  let c0_i32_1557 : BitVec 32 := 0#32
  let v2342 : BitVec 1 := Scalar.cmpi .ne v2341 c0_i32_1557
  let v2346 : BitVec 1 := Scalar.andi v2345 v2342
  let v2347 : BitVec 32 := Scalar.addi v2341 v2340
  let v2348 : BitVec 32 := Scalar.select v2346 v2347 v2341
  let c1_i32_1561 : BitVec 32 := 1#32
  let v2349 : BitVec 32 := Scalar.muli v2348 c1_i32_1561
  let v2350 : BitVec 32 := Scalar.addi c0_i32_1562 v2349
  v2350.toNat
def k0_dev92 (d0 : Dev nD) : Nat :=
  let c0_i32_1574 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1565 : BitVec 32 := 30#32
  let v2357 : BitVec 32 := Scalar.addi v2 c30_i32_1565
  let c32_i32_1566 : BitVec 32 := 32#32
  let c0_i32_1567 : BitVec 32 := 0#32
  let v2358 : BitVec 1 := Scalar.cmpi .eq c32_i32_1566 c0_i32_1567
  let c1_i32_1568 : BitVec 32 := 1#32
  let v2359 : BitVec 32 := Scalar.select v2358 c1_i32_1568 c32_i32_1566
  let v2360 : BitVec 32 := Scalar.remsi v2357 v2359
  let c0_i32_1570 : BitVec 32 := 0#32
  let v2362 : BitVec 1 := Scalar.cmpi .slt v2360 c0_i32_1570
  let c0_i32_1571 : BitVec 32 := 0#32
  let v2363 : BitVec 1 := Scalar.cmpi .slt v2359 c0_i32_1571
  let v2364 : BitVec 1 := Scalar.xori v2362 v2363
  let c0_i32_1569 : BitVec 32 := 0#32
  let v2361 : BitVec 1 := Scalar.cmpi .ne v2360 c0_i32_1569
  let v2365 : BitVec 1 := Scalar.andi v2364 v2361
  let v2366 : BitVec 32 := Scalar.addi v2360 v2359
  let v2367 : BitVec 32 := Scalar.select v2365 v2366 v2360
  let c1_i32_1573 : BitVec 32 := 1#32
  let v2368 : BitVec 32 := Scalar.muli v2367 c1_i32_1573
  let v2369 : BitVec 32 := Scalar.addi c0_i32_1574 v2368
  v2369.toNat
def k0_dev93 (d0 : Dev nD) : Nat :=
  let c0_i32_1586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1577 : BitVec 32 := 31#32
  let v2376 : BitVec 32 := Scalar.addi v2 c31_i32_1577
  let c32_i32_1578 : BitVec 32 := 32#32
  let c0_i32_1579 : BitVec 32 := 0#32
  let v2377 : BitVec 1 := Scalar.cmpi .eq c32_i32_1578 c0_i32_1579
  let c1_i32_1580 : BitVec 32 := 1#32
  let v2378 : BitVec 32 := Scalar.select v2377 c1_i32_1580 c32_i32_1578
  let v2379 : BitVec 32 := Scalar.remsi v2376 v2378
  let c0_i32_1582 : BitVec 32 := 0#32
  let v2381 : BitVec 1 := Scalar.cmpi .slt v2379 c0_i32_1582
  let c0_i32_1583 : BitVec 32 := 0#32
  let v2382 : BitVec 1 := Scalar.cmpi .slt v2378 c0_i32_1583
  let v2383 : BitVec 1 := Scalar.xori v2381 v2382
  let c0_i32_1581 : BitVec 32 := 0#32
  let v2380 : BitVec 1 := Scalar.cmpi .ne v2379 c0_i32_1581
  let v2384 : BitVec 1 := Scalar.andi v2383 v2380
  let v2385 : BitVec 32 := Scalar.addi v2379 v2378
  let v2386 : BitVec 32 := Scalar.select v2384 v2385 v2379
  let c1_i32_1585 : BitVec 32 := 1#32
  let v2387 : BitVec 32 := Scalar.muli v2386 c1_i32_1585
  let v2388 : BitVec 32 := Scalar.addi c0_i32_1586 v2387
  v2388.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S1x512x1024 : Shape := ⟨3, ![1, 512, 1024]⟩
abbrev S1024x32768 : Shape := ⟨2, ![1024, 32768]⟩
abbrev S32768x1024 : Shape := ⟨2, ![32768, 1024]⟩
abbrev S1x512x32768 : Shape := ⟨3, ![1, 512, 32768]⟩
abbrev S1x512x256x128 : Shape := ⟨4, ![1, 512, 256, 128]⟩
abbrev S_ : Shape := ⟨0, ![]⟩
abbrev S1x256x512x1 : Shape := ⟨4, ![1, 256, 512, 1]⟩
abbrev S1x256x512x512 : Shape := ⟨4, ![1, 256, 512, 512]⟩
abbrev S1x256x512 : Shape := ⟨3, ![1, 256, 512]⟩
abbrev S1x512x256x1 : Shape := ⟨4, ![1, 512, 256, 1]⟩
abbrev S1x256x128x512 : Shape := ⟨4, ![1, 256, 128, 512]⟩

abbrev nBuf : Space → Nat
  | .hbm => 47
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x32768, .f32⟩
  | .hbm, ⟨2, _⟩ => ⟨S1024x32768, .f32⟩
  | .hbm, ⟨3, _⟩ => ⟨S1024x32768, .f32⟩
  | .hbm, ⟨4, _⟩ => ⟨S32768x1024, .f32⟩
  | .hbm, ⟨5, _⟩ => ⟨S1x512x32768, .f32⟩
  | .hbm, ⟨6, _⟩ => ⟨S1x512x256x128, .f32⟩
  | .hbm, ⟨7, _⟩ => ⟨S1x512x32768, .f32⟩
  | .hbm, ⟨8, _⟩ => ⟨S1x512x256x128, .f32⟩
  | .hbm, ⟨9, _⟩ => ⟨S1x512x32768, .f32⟩
  | .hbm, ⟨10, _⟩ => ⟨S1x512x256x128, .f32⟩
  | .hbm, ⟨11, _⟩ => ⟨S_, .f32⟩
  | .hbm, ⟨12, _⟩ => ⟨S1x512x256x128, .f32⟩
  | .hbm, ⟨13, _⟩ => ⟨S_, .f32⟩
  | .hbm, ⟨14, _⟩ => ⟨S1x256x512x1, .f32⟩
  | .hbm, ⟨15, _⟩ => ⟨S_, .f32⟩
  | .hbm, ⟨16, _⟩ => ⟨S1x256x512x1, .f32⟩
  | .hbm, ⟨17, _⟩ => ⟨S1x256x512x512, .f32⟩
  | .hbm, ⟨18, _⟩ => ⟨S_, .f32⟩
  | .hbm, ⟨19, _⟩ => ⟨S_, .f32⟩
  | .hbm, ⟨20, _⟩ => ⟨S1x256x512x512, .f32⟩
  | .hbm, ⟨21, _⟩ => ⟨S1x256x512x512, .f32⟩
  | .hbm, ⟨22, _⟩ => ⟨S_, .f32⟩
  | .hbm, ⟨23, _⟩ => ⟨S1x256x512, .f32⟩
  | .hbm, ⟨24, _⟩ => ⟨S1x256x512x1, .f32⟩
  | .hbm, ⟨25, _⟩ => ⟨S1x256x512x1, .f32⟩
  | .hbm, ⟨26, _⟩ => ⟨S1x256x512x1, .f32⟩
  | .hbm, ⟨27, _⟩ => ⟨S1x256x512x1, .f32⟩
  | .hbm, ⟨28, _⟩ => ⟨S1x256x512x512, .f32⟩
  | .hbm, ⟨29, _⟩ => ⟨S1x256x512x512, .f32⟩
  | .hbm, ⟨30, _⟩ => ⟨S1x256x512x512, .f32⟩
  | .hbm, ⟨31, _⟩ => ⟨S1x256x512x1, .f32⟩
  | .hbm, ⟨32, _⟩ => ⟨S_, .f32⟩
  | .hbm, ⟨33, _⟩ => ⟨S1x256x512, .f32⟩
  | .hbm, ⟨34, _⟩ => ⟨S1x256x512x1, .f32⟩
  | .hbm, ⟨35, _⟩ => ⟨S1x256x512x1, .f32⟩
  | .hbm, ⟨36, _⟩ => ⟨S1x512x256x1, .f32⟩
  | .hbm, ⟨37, _⟩ => ⟨S1x512x256x128, .f32⟩
  | .hbm, ⟨38, _⟩ => ⟨S1x512x256x128, .f32⟩
  | .hbm, ⟨39, _⟩ => ⟨S1x256x128x512, .f32⟩
  | .hbm, ⟨40, _⟩ => ⟨S1x512x256x128, .f32⟩
  | .hbm, ⟨41, _⟩ => ⟨S1x512x256x128, .f32⟩
  | .hbm, ⟨42, _⟩ => ⟨S1x512x256x1, .f32⟩
  | .hbm, ⟨43, _⟩ => ⟨S1x512x256x128, .f32⟩
  | .hbm, ⟨44, _⟩ => ⟨S1x512x256x128, .f32⟩
  | .hbm, ⟨45, _⟩ => ⟨S1x512x32768, .f32⟩
  | .hbm, ⟨46, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.ProgIdeal.lean ====
/-
  The kernel body as loops over the 31 peers. The printed body lists every signal, copy and wait of a peer on its own; here
  each list is one loop over `Fin 31`, and `body_eq` says that the printed body is those loops, by definitional unfolding.
-/
module

public import proofs.«01_k».proof.Proof.Gen.KernelIdeal.Skeleton
public import proofs.«01_k».proof.Proof.Gen.KernelIdeal.Points
public import Idealize.ShloMosaic.Lib.Pipeline.Regions

@[expose] public section

noncomputable section

namespace Cert.KernelIdealProof

open Idealize.ShloMosaic Idealize.SL.Sem Cert.KernelIdeal Cert.KernelIdeal.Gen

variable {F : FTy → Type} [FloatOps F] [Named F]

/-- The program type of the kernel body. -/
abbrev BodyProg (F : FTy → Type) : Type 1 := Prog (TpuEff nD τ sig (Elt F) Λ₀ .tc) PUnit

/-- One action per element of a list, in the list's order. -/
def seqL (f : Fin 31 → BodyProg F) : List (Fin 31) → BodyProg F
  | [] => pure ⟨⟩
  | j :: js => f j >>= fun _ => seqL f js

/-- The 31 peers' numbers, in the order in which the kernel goes through them. -/
def js : List (Fin 31) := [0, 1, 2, 3, 4, 5, 6, 7, 8, 9, 10, 11, 12, 13, 14, 15, 16, 17, 18, 19, 20, 21, 22, 23, 24, 25, 26, 27, 28, 29, 30]

theorem js_nodup : js.Nodup := by decide
theorem js_toFinset : js.toFinset = Finset.univ := by decide

/-- The `j`-th peer of device `c`. -/
def peer (c : Dev nD) (j : Fin 31) : Dev nD := ⟨(c.val + 1 + j.val) % 32, Nat.mod_lt _ (by decide)⟩

/-- The devices that the barrier's signals name. -/
def devA : Fin 31 → Dev nD → ℕ := ![k0_dev1, k0_dev2, k0_dev3, k0_dev4, k0_dev5, k0_dev6, k0_dev7, k0_dev8, k0_dev9, k0_dev10, k0_dev11, k0_dev12, k0_dev13, k0_dev14, k0_dev15, k0_dev16, k0_dev17, k0_dev18, k0_dev19, k0_dev20, k0_dev21, k0_dev22, k0_dev23, k0_dev24, k0_dev25, k0_dev26, k0_dev27, k0_dev28, k0_dev29, k0_dev30, k0_dev31]
/-- The devices that the first exchange's copies name. -/
def devB : Fin 31 → Dev nD → ℕ := ![k0_dev32, k0_dev33, k0_dev34, k0_dev35, k0_dev36, k0_dev37, k0_dev38, k0_dev39, k0_dev40, k0_dev41, k0_dev42, k0_dev43, k0_dev44, k0_dev45, k0_dev46, k0_dev47, k0_dev48, k0_dev49, k0_dev50, k0_dev51, k0_dev52, k0_dev53, k0_dev54, k0_dev55, k0_dev56, k0_dev57, k0_dev58, k0_dev59, k0_dev60, k0_dev61, k0_dev62]
/-- The devices that the second exchange's copies name. -/
def devC : Fin 31 → Dev nD → ℕ := ![k0_dev63, k0_dev64, k0_dev65, k0_dev66, k0_dev67, k0_dev68, k0_dev69, k0_dev70, k0_dev71, k0_dev72, k0_dev73, k0_dev74, k0_dev75, k0_dev76, k0_dev77, k0_dev78, k0_dev79, k0_dev80, k0_dev81, k0_dev82, k0_dev83, k0_dev84, k0_dev85, k0_dev86, k0_dev87, k0_dev88, k0_dev89, k0_dev90, k0_dev91, k0_dev92, k0_dev93]

theorem devA_eq : ∀ (j : Fin 31) (c : Dev nD), devA j c = (peer c j).val := by decide +kernel
theorem devB_eq : ∀ (j : Fin 31) (c : Dev nD), devB j c = (peer c j).val := by decide +kernel
theorem devC_eq : ∀ (j : Fin 31) (c : Dev nD), devC j c = (peer c j).val := by decide +kernel
theorem devA_lt (j : Fin 31) (c : Dev nD) : devA j c < nD := devA_eq j c ▸ (peer c j).isLt
theorem devB_lt (j : Fin 31) (c : Dev nD) : devB j c < nD := devB_eq j c ▸ (peer c j).isLt
theorem devC_lt (j : Fin 31) (c : Dev nD) : devC j c < nD := devC_eq j c ▸ (peer c j).isLt

/-- A one-element slice of 31 semaphores is in bounds. -/
theorem inb31 : ∀ j : Fin 31, ∀ d, (![j.val] : Fin 1 → ℕ) d + S1.size d ≤ S31.size d := by decide

/-- The word that the loops compute peer `j`'s number from. -/
abbrev jw (j : Fin 31) : BitVec 32 := BitVec.ofNat 32 (1 + j.val)

/-- What one device computes from its staged operands: attention over its heads and its part of the projection. -/
def partVal (v407 : Vec F S1x512x1024 .f32) (v410 v415 v420 v570 : Vec F S1024x1024 .f32) : FVec F S512x1024 .bf16 :=
  let v409 := k0_pay1 v407
  let v414 := k0_pay2 v407 v410
  let v419 := k0_pay3 v407 v415
  let v421 := k0_pay4 v420
  let v424 := k0_pay5 v409 v421
  k0_pay19 (k0_pay6 v409 v414 v419 v421) (k0_pay7 v409 v414 v419 v421)
    (k0_pay11 (k0_pay8 v409 v421) (k0_pay9 v414 v419) (k0_pay10 v414 v419))
    (k0_pay12 v414 v419 v424) (k0_pay13 v414 v419 v424) (k0_pay15 v419 v424 (k0_pay14 v414)) (k0_pay16 v414 v419 v424)
    (k0_pay17 v424) (k0_pay18 v414 v419) v570

/-- The barrier's semaphore. -/
def barSem : Sem sig := (SemArray.scalar (sig.barrier 0 rfl) : Sems sig S_).sem

/-- Wait for the 31 peers to have entered. -/
def barWait : BodyProg F := semWaitWord barSem 31#32

section Steps

variable (arg0 : Memref sig .tc .vmem S1x512x1024 .f32) (harg0 : arg0.IsWhole) (arg1 : Memref sig .tc .vmem S1024x1024 .f32) (harg1 : arg1.IsWhole) (arg2 : Memref sig .tc .vmem S1024x1024 .f32) (harg2 : arg2.IsWhole)
  (arg3 : Memref sig .tc .vmem S1024x1024 .f32) (harg3 : arg3.IsWhole) (arg4 : Memref sig .tc .vmem S1024x1024 .f32) (harg4 : arg4.IsWhole) (arg5 : Memref sig .tc .vmem S1x512x1024 .f32) (harg5 : arg5.IsWhole)
  (arg6 : Memref sig .tc .vmem S512x1024 .bf16) (harg6 : arg6.IsWhole) (arg7 : Memref sig .tc .vmem S32x16x1024 .bf16) (harg7 : arg7.IsWhole) (arg8 : Memref sig .tc .vmem S32x16x1024 .bf16) (harg8 : arg8.IsWhole)
  (arg9 : Memref sig .tc .vmem S16x1024 .bf16) (harg9 : arg9.IsWhole) (arg10 : DmaSems sig S31) (arg11 : DmaSems sig S32) (arg12 : DmaSems sig S31) (arg13 : DmaSems sig S32) (d0 : Dev nD)

/-- Tell peer `j` that this device has entered. -/
def barSig (j : Fin 31) : BodyProg F :=
  semSignalWord (⟨devA j d0, devA_lt j d0⟩ : Dev nD) barSem 1#32

include harg6 harg7 in
/-- Send peer `j` its rows of this device's partial product. -/
def rsSend (j : Fin 31) : BodyProg F :=
  Prog.lift (.enqueueDma (arg6.slice (Rect.unit (s := S512x1024) (k0_off3 d0 (jw j)) S16x1024.size (k0_off3_inb d0 j)) (fun _ => rfl))
    (.remote (Dev.tc (⟨devB j d0, devB_lt j d0⟩ : Dev nD))
      ((arg7.slice (Rect.unit (s := S32x16x1024) (k0_off2 d0) S1x16x1024.size (k0_off2_inb d0)) (fun _ => rfl)).squeeze S16x1024 squeezes_S1x16x1024_S16x1024)
      (.dma ((arg10.slice (Rect.unit (s := S31) ![j.val] S1.size (inb31 j))).squeeze S_ squeezes_S1_S_).sem))
    (.dma ((arg11.slice (Rect.unit (s := S32) (k0_off1 d0) S1.size (k0_off1_inb d0))).squeeze S_ squeezes_S1_S_).sem)
    (harg6.wordExact_slice rfl _ (k0_off3_wordsbf16 d0 j)) ((harg7.wordExact_slice rfl _ (k0_off2_wordsbf16 d0)).reshape _ _) ⟨⟨rfl, Or.inl rfl⟩, trivial⟩)

include harg6 harg7 in
/-- Wait for peer `j`'s rows. -/
def rsWait (j : Fin 31) : BodyProg F :=
  Prog.lift (.waitDma2 ((arg11.slice (Rect.unit (s := S32) (k0_off6 d0 (jw j)) S1.size (k0_off6_inb d0 j))).squeeze S_ squeezes_S1_S_).sem
    (arg6.slice (Rect.unit (s := S512x1024) ![0, 0] S16x1024.size inb_S512x1024_S16x1024_0_0) (fun _ => rfl))
    ((arg7.slice (Rect.unit (s := S32x16x1024) (k0_off7 d0 (jw j)) S1x16x1024.size (k0_off7_inb d0 j)) (fun _ => rfl)).squeeze S16x1024 squeezes_S1x16x1024_S16x1024)
    (harg6.wordExact_slice rfl _ wordsbf16_S512x1024_S16x1024_0_0) ((harg7.wordExact_slice rfl _ (k0_off7_wordsbf16 d0 j)).reshape _ _))

include harg8 harg9 in
/-- Send peer `j` this device's rows of the sum. -/
def agSend (j : Fin 31) : BodyProg F :=
  Prog.lift (.enqueueDma arg9
    (.remote (Dev.tc (⟨devC j d0, devC_lt j d0⟩ : Dev nD))
      ((arg8.slice (Rect.unit (s := S32x16x1024) (k0_off2 d0) S1x16x1024.size (k0_off2_inb d0)) (fun _ => rfl)).squeeze S16x1024 squeezes_S1x16x1024_S16x1024)
      (.dma ((arg12.slice (Rect.unit (s := S31) ![j.val] S1.size (inb31 j))).squeeze S_ squeezes_S1_S_).sem))
    (.dma ((arg13.slice (Rect.unit (s := S32) (k0_off1 d0) S1.size (k0_off1_inb d0))).squeeze S_ squeezes_S1_S_).sem)
    harg9.wordExact ((harg8.wordExact_slice rfl _ (k0_off2_wordsbf16 d0)).reshape _ _) ⟨⟨rfl, Or.inl rfl⟩, trivial⟩)

include harg8 harg9 in
/-- Wait for peer `j`'s rows of the sum. -/
def agWait (j : Fin 31) : BodyProg F :=
  Prog.lift (.waitDma2 ((arg13.slice (Rect.unit (s := S32) (k0_off6 d0 (jw j)) S1.size (k0_off6_inb d0 j))).squeeze S_ squeezes_S1_S_).sem
    arg9
    ((arg8.slice (Rect.unit (s := S32x16x1024) (k0_off7 d0 (jw j)) S1x16x1024.size (k0_off7_inb d0 j)) (fun _ => rfl)).squeeze S16x1024 squeezes_S1x16x1024_S16x1024)
    harg9.wordExact ((harg8.wordExact_slice rfl _ (k0_off7_wordsbf16 d0 j)).reshape _ _))

include harg6 harg7 in
/-- Wait until the first copy to peer `j` has left. -/
def rsDrain (j : Fin 31) : BodyProg F :=
  Prog.lift (.waitDma2 ((arg10.slice (Rect.unit (s := S31) ![j.val] S1.size (inb31 j))).squeeze S_ squeezes_S1_S_).sem
    ((arg7.slice (Rect.unit (s := S32x16x1024) (k0_off2 d0) S1x16x1024.size (k0_off2_inb d0)) (fun _ => rfl)).squeeze S16x1024 squeezes_S1x16x1024_S16x1024)
    (arg6.slice (Rect.unit (s := S512x1024) (k0_off3 d0 (jw j)) S16x1024.size (k0_off3_inb d0 j)) (fun _ => rfl))
    ((harg7.wordExact_slice rfl _ (k0_off2_wordsbf16 d0)).reshape _ _) (harg6.wordExact_slice rfl _ (k0_off3_wordsbf16 d0 j)))

include harg8 harg9 in
/-- Wait until the second copy to peer `j` has left. -/
def agDrain (j : Fin 31) : BodyProg F :=
  Prog.lift (.waitDma2 ((arg12.slice (Rect.unit (s := S31) ![j.val] S1.size (inb31 j))).squeeze S_ squeezes_S1_S_).sem
    ((arg8.slice (Rect.unit (s := S32x16x1024) (k0_off2 d0) S1x16x1024.size (k0_off2_inb d0)) (fun _ => rfl)).squeeze S16x1024 squeezes_S1x16x1024_S16x1024)
    arg9
    ((harg8.wordExact_slice rfl _ (k0_off2_wordsbf16 d0)).reshape _ _) harg9.wordExact)

include harg6 harg7 harg8 harg9 in
/-- Both of them. -/
def drain (j : Fin 31) : BodyProg F :=
  rsDrain arg6 harg6 arg7 harg7 arg10 d0 j >>= fun _ => agDrain arg8 harg8 arg9 harg9 arg12 d0 j

end Steps

/-- The kernel body as loops over the peers. -/
def bodyS (arg0 : Memref sig .tc .vmem S1x512x1024 .f32) (harg0 : arg0.IsWhole) (arg1 : Memref sig .tc .vmem S1024x1024 .f32) (harg1 : arg1.IsWhole) (arg2 : Memref sig .tc .vmem S1024x1024 .f32) (harg2 : arg2.IsWhole)
  (arg3 : Memref sig .tc .vmem S1024x1024 .f32) (harg3 : arg3.IsWhole) (arg4 : Memref sig .tc .vmem S1024x1024 .f32) (harg4 : arg4.IsWhole) (arg5 : Memref sig .tc .vmem S1x512x1024 .f32) (harg5 : arg5.IsWhole)
  (arg6 : Memref sig .tc .vmem S512x1024 .bf16) (harg6 : arg6.IsWhole) (arg7 : Memref sig .tc .vmem S32x16x1024 .bf16) (harg7 : arg7.IsWhole) (arg8 : Memref sig .tc .vmem S32x16x1024 .bf16) (harg8 : arg8.IsWhole)
  (arg9 : Memref sig .tc .vmem S16x1024 .bf16) (harg9 : arg9.IsWhole) (arg10 : DmaSems sig S31) (arg11 : DmaSems sig S32) (arg12 : DmaSems sig S31) (arg13 : DmaSems sig S32) : BodyProg F := do
  let d0 : Dev nD ← Prog.lift .deviceId
  seqL (barSig d0) js
  barWait
  let v407 : Vec F S1x512x1024 .f32 ← Prog.lift (.load arg0 (Rect.unit (s := S1x512x1024) ![0, 0, 0] S1x512x1024.size inb_S1x512x1024_S1x512x1024_0_0_0).toLoadRect (View.loadsAt_vmem h_S1x512x1024))
  let v410 : Vec F S1024x1024 .f32 ← Prog.lift (.load arg1 (Rect.unit (s := S1024x1024) ![0, 0] S1024x1024.size inb_S1024x1024_S1024x1024_0_0).toLoadRect (View.loadsAt_vmem h_S1024x1024))
  let v415 : Vec F S1024x1024 .f32 ← Prog.lift (.load arg3 (Rect.unit (s := S1024x1024) ![0, 0] S1024x1024.size inb_S1024x1024_S1024x1024_0_0).toLoadRect (View.loadsAt_vmem h_S1024x1024))
  let v420 : Vec F S1024x1024 .f32 ← Prog.lift (.load arg4 (Rect.unit (s := S1024x1024) ![0, 0] S1024x1024.size inb_S1024x1024_S1024x1024_0_0).toLoadRect (View.loadsAt_vmem h_S1024x1024))
  let v570 : Vec F S1024x1024 .f32 ← Prog.lift (.load arg2 (Rect.unit (s := S1024x1024) ![0, 0] S1024x1024.size inb_S1024x1024_S1024x1024_0_0).toLoadRect (View.loadsAt_vmem h_S1024x1024))
  let v575 : Vec F S512x1024 .bf16 ← Prog.lift (.load arg6 (Rect.unit (s := S512x1024) ![0, 0] S512x1024.size inb_S512x1024_S512x1024_0_0).toLoadRect (View.loadsAt_vmem h_S512x1024))
  Prog.lift (.store arg6 (Rect.unit (s := S512x1024) ![0, 0] S512x1024.size inb_S512x1024_S512x1024_0_0) (partVal v407 v410 v415 v420 v570) Finset.univ (View.stores_vmem h_S512x1024 (harg6.storeExact_slice rfl _ packedbf16_S512x1024_S512x1024_0_0) (fun _ => rfl)) (.inl rfl))
  seqL (rsSend arg6 harg6 arg7 harg7 arg10 arg11 d0) js
  let v1231 : Vec F S16x1024 .bf16 ← Prog.lift (.load arg6 (Rect.unit (s := S512x1024) (k0_off4 d0) S16x1024.size (k0_off4_inb d0)).toLoadRect (View.loadsAt_vmem h_S16x1024))
  let v1233 : Vec F S1x16x1024 .bf16 ← Prog.lift (.load arg7 (Rect.unit (s := S32x16x1024) (k0_off5 d0) S1x16x1024.size (k0_off5_inb d0)).toLoadRect (View.loadsAt_vmem h_S1x16x1024))
  Prog.lift (.store arg7 (Rect.unit (s := S32x16x1024) (k0_off5 d0) S1x16x1024.size (k0_off5_inb d0)) (k0_pay20 v1231) Finset.univ (View.stores_vmem h_S1x16x1024 (harg7.storeExact_slice rfl _ (k0_off5_packedbf16 d0)) (fun _ => rfl)) (.inl rfl))
  seqL (rsWait arg6 harg6 arg7 harg7 arg11 d0) js
  let v1794 : Vec F S32x16x1024 .bf16 ← Prog.lift (.load arg7 (Rect.unit (s := S32x16x1024) ![0, 0, 0] S32x16x1024.size inb_S32x16x1024_S32x16x1024_0_0_0).toLoadRect (View.loadsAt_vmem h_S32x16x1024))
  let v1798 : Vec F S16x1024 .bf16 ← Prog.lift (.load arg9 (Rect.unit (s := S16x1024) ![0, 0] S16x1024.size inb_S16x1024_S16x1024_0_0).toLoadRect (View.loadsAt_vmem h_S16x1024))
  Prog.lift (.store arg9 (Rect.unit (s := S16x1024) ![0, 0] S16x1024.size inb_S16x1024_S16x1024_0_0) (k0_pay21 v1794) Finset.univ (View.stores_vmem h_S16x1024 (harg9.storeExact_slice rfl _ packedbf16_S16x1024_S16x1024_0_0) (fun _ => rfl)) (.inl rfl))
  let v1801 : Vec F S16x1024 .bf16 ← Prog.lift (.load arg9 (Rect.unit (s := S16x1024) ![0, 0] S16x1024.size inb_S16x1024_S16x1024_0_0).toLoadRect (View.loadsAt_vmem h_S16x1024))
  let v1803 : Vec F S1x16x1024 .bf16 ← Prog.lift (.load arg8 (Rect.unit (s := S32x16x1024) (k0_off5 d0) S1x16x1024.size (k0_off5_inb d0)).toLoadRect (View.loadsAt_vmem h_S1x16x1024))
  Prog.lift (.store arg8 (Rect.unit (s := S32x16x1024) (k0_off5 d0) S1x16x1024.size (k0_off5_inb d0)) (k0_pay22 v1801) Finset.univ (View.stores_vmem h_S1x16x1024 (harg8.storeExact_slice rfl _ (k0_off5_packedbf16 d0)) (fun _ => rfl)) (.inl rfl))
  seqL (agSend arg8 harg8 arg9 harg9 arg12 arg13 d0) js
  seqL (agWait arg8 harg8 arg9 harg9 arg13 d0) js
  let v2922 : Vec F S32x16x1024 .bf16 ← Prog.lift (.load arg8 (Rect.unit (s := S32x16x1024) ![0, 0, 0] S32x16x1024.size inb_S32x16x1024_S32x16x1024_0_0_0).toLoadRect (View.loadsAt_vmem h_S32x16x1024))
  let v2925 : Vec F S1x512x1024 .f32 ← Prog.lift (.load arg5 (Rect.unit (s := S1x512x1024) ![0, 0, 0] S1x512x1024.size inb_S1x512x1024_S1x512x1024_0_0_0).toLoadRect (View.loadsAt_vmem h_S1x512x1024))
  Prog.lift (.store arg5 (Rect.unit (s := S1x512x1024) ![0, 0, 0] S1x512x1024.size inb_S1x512x1024_S1x512x1024_0_0_0) (k0_pay23 v2922) Finset.univ (View.stores_vmem_bits_univ h_S1x512x1024 rfl) (.inl rfl))
  seqL (drain arg6 harg6 arg7 harg7 arg8 harg8 arg9 harg9 arg10 arg12 d0) js

set_option maxRecDepth 65536 in
/-- The printed body is the loops. -/
theorem body_eq : cc0_body (F := F) = bodyS (F := F) := by chain_rfl

end Cert.KernelIdealProof

end
-- ==== Proof.ViewsIdeal.lean ====
/-
  The buffers and semaphores that the exchange uses, each under one name: the 32 slots of the two receive buffers, the 32 row
  blocks of the partial product, the semaphores of the two exchanges; and what the copies leave in the slots.
-/
module

public import proofs.«01_k».proof.Proof.ProgIdeal
public import Idealize.ShloMosaic.Lib.Pointwise.Index
public import Idealize.ShloMosaic.Lib.Pipeline.Value

@[expose] public section

noncomputable section

namespace Cert.KernelIdealProof

open Idealize.ShloMosaic Idealize.SL.Sem Cert.KernelIdeal Cert.KernelIdeal.Gen

/-! ## Peers -/

theorem peer_ne (c : Dev nD) (j : Fin 31) : peer c j ≠ c := by revert c j; decide +kernel
theorem peer_inj (c : Dev nD) : Function.Injective (peer c) := by revert c; decide +kernel
theorem exists_peer (c s : Dev nD) (h : s ≠ c) : ∃ j, peer c j = s := by revert c s; decide +kernel

/-- The peers of a device are all the other devices. -/
theorem peers_eq (c : Dev nD) : Finset.univ.map ⟨peer c, peer_inj c⟩ = Finset.univ.erase c := by
  ext s
  rw [Finset.mem_map, Finset.mem_erase]
  constructor
  · rintro ⟨j, -, rfl⟩; exact ⟨peer_ne c j, Finset.mem_univ _⟩
  · rintro ⟨h, -⟩; obtain ⟨j, hj⟩ := exists_peer c s h; exact ⟨j, Finset.mem_univ _, hj⟩

/-! ## Where the offsets of the copies lie -/

theorem off3_eq : ∀ (j : Fin 31) (d : Dev nD), k0_off3 d (jw j) = ![16 * (peer d j).val, 0] := by decide +kernel
theorem off6_eq : ∀ (j : Fin 31) (d : Dev nD), k0_off6 d (jw j) = ![(peer d j).val] := by decide +kernel
theorem off7_eq : ∀ (j : Fin 31) (d : Dev nD), k0_off7 d (jw j) = ![(peer d j).val, 0, 0] := by decide +kernel

theorem inbSlot : ∀ (s : Dev nD) a, (![s.val, 0, 0] : Fin 3 → ℕ) a + S1x16x1024.size a ≤ S32x16x1024.size a := by decide +kernel
theorem inbRows : ∀ (s : Dev nD) a, (![16 * s.val, 0] : Fin 2 → ℕ) a + S16x1024.size a ≤ S512x1024.size a := by decide +kernel
theorem inb32 : ∀ (s : Dev nD) a, (![s.val] : Fin 1 → ℕ) a + S1.size a ≤ S32.size a := by decide +kernel

/-! ## The views -/

abbrev partM : Memref sig .tc .vmem S512x1024 .bf16 := Memref.whole cc0_scratch0
abbrev rsM : Memref sig .tc .vmem S32x16x1024 .bf16 := Memref.whole cc0_scratch1
abbrev agM : Memref sig .tc .vmem S32x16x1024 .bf16 := Memref.whole cc0_scratch2
abbrev bcM : Memref sig .tc .vmem S16x1024 .bf16 := Memref.whole cc0_scratch3

/-- Slot `s` of a receive buffer, as a rectangle of it. -/
abbrev slotR (s : Dev nD) : Rect S32x16x1024 := Rect.unit (s := S32x16x1024) ![s.val, 0, 0] S1x16x1024.size (inbSlot s)
/-- Row block `s` of the partial product, as a rectangle of it. -/
abbrev rowsR (s : Dev nD) : Rect S512x1024 := Rect.unit (s := S512x1024) ![16 * s.val, 0] S16x1024.size (inbRows s)

/-- Row block `s` of the partial product. -/
abbrev partV (s : Dev nD) : Memref sig .tc .vmem S16x1024 .bf16 := partM.slice (rowsR s) (fun _ => rfl)
/-- Slot `s` of the first exchange's receive buffer. -/
abbrev rsV (s : Dev nD) : Memref sig .tc .vmem S16x1024 .bf16 := (rsM.slice (slotR s) (fun _ => rfl)).squeeze S16x1024 squeezes_S1x16x1024_S16x1024
/-- Slot `s` of the second exchange's receive buffer. -/
abbrev agV (s : Dev nD) : Memref sig .tc .vmem S16x1024 .bf16 := (agM.slice (slotR s) (fun _ => rfl)).squeeze S16x1024 squeezes_S1x16x1024_S16x1024

/-- What one copy adds to a semaphore. -/
abbrev N : ℕ := bcM.view.dmaCredit
theorem N_pos : 0 < N := View.dmaCredit_pos _ (by decide)
theorem credit_part (s : Dev nD) : (partV s).view.dmaCredit = N := rfl
theorem credit_rs (s : Dev nD) : (rsV s).view.dmaCredit = N := rfl
theorem credit_ag (s : Dev nD) : (agV s).view.dmaCredit = N := rfl

/-! ## The semaphores -/

/-- The semaphore on which the first copy to peer `j` says that it has left. -/
def rssS (j : Fin 31) : DmaSem sig := (⟨6 + j.val, by have := j.isLt; omega⟩ : Fin 132)
/-- The semaphore on which device `s`'s rows arrive in the first exchange. -/
def rsrS (s : Dev nD) : DmaSem sig := (⟨37 + s.val, by have : s.val < 32 := s.isLt; omega⟩ : Fin 132)
/-- The semaphore on which the second copy to peer `j` says that it has left. -/
def agsS (j : Fin 31) : DmaSem sig := (⟨69 + j.val, by have := j.isLt; omega⟩ : Fin 132)
/-- The semaphore on which device `s`'s rows arrive in the second exchange. -/
def agrS (s : Dev nD) : DmaSem sig := (⟨100 + s.val, by have : s.val < 32 := s.isLt; omega⟩ : Fin 132)

theorem rss_sem : ∀ j : Fin 31, ((cc0_scratch4.slice (Rect.unit (s := S31) ![j.val] S1.size (inb31 j))).squeeze S_ squeezes_S1_S_).sem = rssS j := by decide +kernel
theorem rsr_sem : ∀ s : Dev nD, ((cc0_scratch5.slice (Rect.unit (s := S32) ![s.val] S1.size (inb32 s))).squeeze S_ squeezes_S1_S_).sem = rsrS s := by decide +kernel
theorem ags_sem : ∀ j : Fin 31, ((cc0_scratch6.slice (Rect.unit (s := S31) ![j.val] S1.size (inb31 j))).squeeze S_ squeezes_S1_S_).sem = agsS j := by decide +kernel
theorem agr_sem : ∀ s : Dev nD, ((cc0_scratch7.slice (Rect.unit (s := S32) ![s.val] S1.size (inb32 s))).squeeze S_ squeezes_S1_S_).sem = agrS s := by decide +kernel

/-- A one-element slice of a 32-semaphore array at equal offsets is the same slice. -/
theorem sem32_congr (a : DmaSems sig S32) {o o' : Fin 1 → ℕ} (h : o = o') (hi : ∀ d, o d + S1.size d ≤ S32.size d) (hi' : ∀ d, o' d + S1.size d ≤ S32.size d) :
    ((a.slice (Rect.unit (s := S32) o S1.size hi)).squeeze S_ squeezes_S1_S_).sem = ((a.slice (Rect.unit (s := S32) o' S1.size hi')).squeeze S_ squeezes_S1_S_).sem := by
  subst h; rfl

/-! ## The element sets of slots and row blocks -/

theorem mem_slot (s : Dev nD) (i : S32x16x1024.Idx) : i ∈ (slotR s).set ↔ (i 0).val = s.val := by
  rw [Rect.mem_set_unit]
  constructor
  · intro h; have h0 := h 0
    simp [S1x16x1024] at h0; omega
  · intro h a
    have := (i a).isLt
    fin_cases a
    · simp [S1x16x1024, S32x16x1024] at *; omega
    · simp [S1x16x1024, S32x16x1024] at *; omega
    · simp [S1x16x1024, S32x16x1024] at *; omega

theorem mem_rows (s : Dev nD) (i : S512x1024.Idx) : i ∈ (rowsR s).set ↔ (i 0).val / 16 = s.val := by
  rw [Rect.mem_set_unit]
  constructor
  · intro h; have h0 := h 0
    simp [S16x1024] at h0; omega
  · intro h a
    have := (i a).isLt
    fin_cases a
    · simp [S16x1024, S512x1024] at *; omega
    · simp [S16x1024, S512x1024] at *; omega

theorem slots_disjoint (s t : Dev nD) (h : s ≠ t) : Disjoint (slotR s).set (slotR t).set := by
  rw [Finset.disjoint_left]; intro i hi hj
  exact h (Fin.ext (((mem_slot s i).mp hi).symm.trans ((mem_slot t i).mp hj)))
theorem slots_cover : (Finset.univ : Finset (Dev nD)).biUnion (fun s => (slotR s).set) = Finset.univ := by
  ext i
  refine ⟨fun _ => Finset.mem_univ _, fun _ => Finset.mem_biUnion.mpr ⟨⟨(i 0).val, (i 0).isLt⟩, Finset.mem_univ _, (mem_slot _ _).mpr rfl⟩⟩
theorem rows_disjoint (s t : Dev nD) (h : s ≠ t) : Disjoint (rowsR s).set (rowsR t).set := by
  rw [Finset.disjoint_left]; intro i hi hj
  exact h (Fin.ext (((mem_rows s i).mp hi).symm.trans ((mem_rows t i).mp hj)))
theorem rows_cover : (Finset.univ : Finset (Dev nD)).biUnion (fun s => (rowsR s).set) = Finset.univ := by
  ext i
  refine ⟨fun _ => Finset.mem_univ _, fun _ => Finset.mem_biUnion.mpr ⟨⟨(i 0).val / 16, ?_⟩, Finset.mem_univ _, (mem_rows _ _).mpr rfl⟩⟩
  have : (i 0).val < 512 := (i 0).isLt
  show _ < 32
  omega

theorem rsV_set (s : Dev nD) : (rsV s).view.set = (slotR s).set := by
  rw [Memref.set_view_squeeze]; exact View.set_slice_whole _ _
theorem agV_set (s : Dev nD) : (agV s).view.set = (slotR s).set := by
  rw [Memref.set_view_squeeze]; exact View.set_slice_whole _ _
theorem partV_set (s : Dev nD) : (partV s).view.set = (rowsR s).set := View.set_slice_whole _ _
theorem bcM_set : bcM.view.set = Finset.univ := View.set_whole _

/-! ## What the buffers come to hold -/

section Contents

variable {F : FTy → Type} [FloatOps F] [Named F] (P : Dev nD → S512x1024.Idx → Elt F .bf16)

/-- The first exchange's receive buffer on device `c`: slot `s` is row block `c` of device `s`'s partial product. -/
def RS (c : Dev nD) : S32x16x1024.Idx → Elt F .bf16 := fun i =>
  P ⟨(i 0).val, (i 0).isLt⟩ (ix2 (n0 := 512) (n1 := 1024) ⟨16 * c.val + (i 1).val, by
    have h1 : (i 1).val < 16 := (i 1).isLt
    have h2 : c.val < 32 := c.isLt
    omega⟩ ⟨(i 2).val, (i 2).isLt⟩)

/-- The rows that device `c` sends in the second exchange: the sum of its slots. -/
def BC (c : Dev nD) : S16x1024.Idx → Elt F .bf16 := k0_pay21 (RS P c)

/-- The second exchange's receive buffer: slot `s` is what device `s` sends. -/
def AG : S32x16x1024.Idx → Elt F .bf16 := fun i =>
  BC P ⟨(i 0).val, (i 0).isLt⟩ (ix2 (n0 := 16) (n1 := 1024) ⟨(i 1).val, (i 1).isLt⟩ ⟨(i 2).val, (i 2).isLt⟩)

/-- The result of every device. -/
def OUT : S1x512x1024.Idx → Elt F .f32 := k0_pay23 (AG P)

/-- Where an element of slot `s` lies in the receive buffer. -/
theorem emb_rsV (s : Dev nD) (x : S16x1024.Idx) (i : S32x16x1024.Idx) (h : i = (rsV s).view.emb x) :
    (i 0).val = s.val ∧ (i 1).val = (x 0).val ∧ (i 2).val = (x 1).val := by
  subst h
  have e : Shape.reshapeEquiv (s := S1x16x1024) (s' := S16x1024) (squeezes_S1x16x1024_S16x1024).numel_eq x = Fin.cons ⟨0, Nat.one_pos⟩ x := Shape.reshapeEquiv_cons_one _ x
  have e' : (rsV s).view.emb x = (slotR s).emb (Fin.cons ⟨0, Nat.one_pos⟩ x : S1x16x1024.Idx) := congrArg (slotR s).emb e
  rw [e']
  refine ⟨?_, ?_, ?_⟩ <;> rw [Rect.emb_apply] <;> simp [Fin.cons] <;> rfl

/-- A slot of the receive buffer of either exchange places its elements alike. -/
theorem emb_agV (s : Dev nD) (x : S16x1024.Idx) (i : S32x16x1024.Idx) (h : i = (agV s).view.emb x) :
    (i 0).val = s.val ∧ (i 1).val = (x 0).val ∧ (i 2).val = (x 1).val := emb_rsV s x i h

/-- A copy of device `s`'s row block `c` into slot `s` of device `c` leaves there what `RS` says. -/
theorem landed_rs (c s : Dev nD) (fd : S32x16x1024.Idx → Elt F .bf16) (i : S32x16x1024.Idx) (hi : i ∈ (rsV s).view.set) :
    (rsV s).view.write (Elt F) fd ((partV c).view.read (Elt F) (P s)) Finset.univ i = RS P c i := by
  obtain ⟨x, -, rfl⟩ := Finset.mem_map.mp hi
  rw [View.write_emb_of_mem _ _ (Finset.mem_univ x)]
  obtain ⟨h0, h1, h2⟩ := emb_rsV s x _ rfl
  show P s ((rowsR c).emb x) = _
  unfold RS
  have hs : (⟨((rsV s).view.emb x 0).val, ((rsV s).view.emb x 0).isLt⟩ : Dev nD) = s := Fin.ext h0
  refine congrArg₂ P hs.symm (funext fun a => Fin.ext ?_)
  rw [Rect.emb_apply]
  fin_cases a
  · show 16 * c.val + 1 * (x 0).val = 16 * c.val + _
    rw [Nat.one_mul, ← h1]
  · show 0 + 1 * (x 1).val = _
    rw [Nat.one_mul, Nat.zero_add, ← h2]; rfl

/-- A copy of device `s`'s rows of the sum into slot `s` leaves there what `AG` says. -/
theorem landed_ag (s : Dev nD) (fd : S32x16x1024.Idx → Elt F .bf16) (i : S32x16x1024.Idx) (hi : i ∈ (agV s).view.set) :
    (agV s).view.write (Elt F) fd (bcM.view.read (Elt F) (BC P s)) Finset.univ i = AG P i := by
  obtain ⟨x, -, rfl⟩ := Finset.mem_map.mp hi
  rw [View.write_emb_of_mem _ _ (Finset.mem_univ x)]
  obtain ⟨h0, h1, h2⟩ := emb_agV s x _ rfl
  show BC P s x = _
  unfold AG
  have hs : (⟨((agV s).view.emb x 0).val, ((agV s).view.emb x 0).isLt⟩ : Dev nD) = s := Fin.ext h0
  refine congrArg₂ (BC P) hs.symm (funext fun a => Fin.ext ?_)
  fin_cases a
  · exact h1.symm
  · exact h2.symm

/-- A device's own row block, stored into its own slot, is what `RS` says. -/
theorem own_rs (c : Dev nD) (fd : S32x16x1024.Idx → Elt F .bf16) (i : S32x16x1024.Idx) (hi : i ∈ (slotR c).set) :
    (rsM.access (slotR c) : View sig .tc _ _ _).write (Elt F) fd (k0_pay20 (partM.view.readAt (Elt F) (rowsR c).toLoadRect (P c))) Finset.univ i = RS P c i := by
  obtain ⟨x, -, rfl⟩ := Finset.mem_map.mp ((Rect.map_emb_univ (slotR c)).symm ▸ hi)
  refine (View.write_emb_of_mem (v := (rsM.access (slotR c) : View sig .tc _ _ _)) (Val := Elt F) fd _ (Finset.mem_univ x)).trans ?_
  show k0_pay20 (partM.view.readAt (Elt F) (rowsR c).toLoadRect (P c)) x = _
  unfold k0_pay20
  refine (shapeCast_addUnit_apply ![16, 1024] _ _ x).trans ?_
  show P c ((rowsR c).emb (fun a : Fin 2 => x a.succ)) = _
  unfold RS
  have h0 : (x 0).val = 0 := by have : (x 0).val < 1 := (x 0).isLt; omega
  have hs : (⟨((slotR c).emb x 0).val, ((slotR c).emb x 0).isLt⟩ : Dev nD) = c := Fin.ext (by
    show c.val + 1 * (x 0).val = c.val
    omega)
  refine congrArg₂ P hs.symm (funext fun a => Fin.ext ?_)
  fin_cases a
  · show 16 * c.val + 1 * (x 1).val = 16 * c.val + (0 + 1 * (x 1).val)
    omega
  · show 0 + 1 * (x 2).val = 0 + 1 * (x 2).val
    rfl

/-- A device's own rows of the sum, stored into its own slot, are what `AG` says. -/
theorem own_ag (c : Dev nD) (fd : S32x16x1024.Idx → Elt F .bf16) (i : S32x16x1024.Idx) (hi : i ∈ (slotR c).set) :
    (agM.access (slotR c) : View sig .tc _ _ _).write (Elt F) fd (k0_pay22 (BC P c)) Finset.univ i = AG P i := by
  obtain ⟨x, -, rfl⟩ := Finset.mem_map.mp ((Rect.map_emb_univ (slotR c)).symm ▸ hi)
  refine (View.write_emb_of_mem (v := (agM.access (slotR c) : View sig .tc _ _ _)) (Val := Elt F) fd _ (Finset.mem_univ x)).trans ?_
  show k0_pay22 (BC P c) x = _
  unfold k0_pay22
  refine (shapeCast_addUnit_apply ![16, 1024] _ _ x).trans ?_
  unfold AG
  have h0 : (x 0).val = 0 := by have : (x 0).val < 1 := (x 0).isLt; omega
  have hs : (⟨((slotR c).emb x 0).val, ((slotR c).emb x 0).isLt⟩ : Dev nD) = c := Fin.ext (by
    show c.val + 1 * (x 0).val = c.val
    omega)
  refine congrArg₂ (BC P) hs.symm (funext fun a => Fin.ext ?_)
  fin_cases a
  · show (x 1).val = 0 + 1 * (x 1).val
    omega
  · show (x 2).val = 0 + 1 * (x 2).val
    omega

end Contents

end Cert.KernelIdealProof

end
-- ==== Proof.SchedIdeal.lean ====
/-
  The protocol of the exchange, one round on every semaphore. Device `c` waits on five kinds of semaphore:
    `bar`    its entry semaphore: every other device `d` adds one unit and hands over its own slots `c` of both receive buffers;
    `rss j`  the first copy to peer `j` has left: gives back the row block that was read;
    `rsr s`  device `s`'s rows have arrived in slot `s` of the first receive buffer;
    `ags j`  the second copy to peer `j` has left: gives back a share of the rows that were read;
    `agr s`  device `s`'s rows of the sum have arrived in slot `s` of the second receive buffer.
-/
module

public import proofs.«01_k».proof.Proof.ViewsIdeal
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The ghost state: the pipeline's and the exchange's, whose duties are named by the device that pays them -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores of the protocol -/

/-- The kernel's own semaphores, by kind: first exchange sent, received; second exchange sent, received. -/
abbrev OK : Type := (Fin 31 ⊕ Dev nD) ⊕ (Fin 31 ⊕ Dev nD)
/-- The kinds of semaphore: the entry semaphore and the kernel's own. -/
abbrev Kd : Type := Unit ⊕ OK
@[match_pattern] abbrev kBar : Kd := .inl ()
@[match_pattern] abbrev kRss (j : Fin 31) : Kd := .inr (.inl (.inl j))
@[match_pattern] abbrev kRsr (s : Dev nD) : Kd := .inr (.inl (.inr s))
@[match_pattern] abbrev kAgs (j : Fin 31) : Kd := .inr (.inr (.inl j))
@[match_pattern] abbrev kAgr (s : Dev nD) : Kd := .inr (.inr (.inr s))

/-- The semaphore of a kind. -/
def semOf : Kd → SemLoc sig
  | kBar => .reg barSem
  | kRss j => .dma (rssS j)
  | kRsr s => .dma (rsrS s)
  | kAgs j => .dma (agsS j)
  | kAgr s => .dma (agrS s)

/-- The kind of a semaphore, if it is one of the protocol's. -/
def kindOf : SemLoc sig → Option Kd
  | .reg _ => some kBar
  | .dma q =>
    if q.val < 6 then none
    else if h : q.val < 37 then some (kRss ⟨q.val - 6, by omega⟩)
    else if h' : q.val < 69 then some (kRsr (⟨q.val - 37, by omega⟩ : Fin 32))
    else if h'' : q.val < 100 then some (kAgs ⟨q.val - 69, by omega⟩)
    else some (kAgr (⟨q.val - 100, by have : q.val < 132 := q.isLt; omega⟩ : Fin 32))

theorem kindOf_semOf (k : Kd) : kindOf (semOf k) = some k := by
  rcases k with ⟨⟩ | (j | s) | (j | s)
  · rfl
  · revert j; decide +kernel
  · revert s; decide +kernel
  · revert j; decide +kernel
  · revert s; decide +kernel

theorem semOf_inj : Function.Injective semOf := fun a b h => by
  have := (kindOf_semOf a).symm.trans ((congrArg kindOf h).trans (kindOf_semOf b)); exact Option.some.inj this

/-- Device `c`'s semaphore of a kind. -/
abbrev cell (c : Dev nD) (k : Kd) : GSem nD τ sig := ((c : Thread nD τ), semOf k)

theorem cell_inj {c c' : Dev nD} {k k' : Kd} (h : cell c k = cell c' k') : c = c' ∧ k = k' :=
  ⟨congrArg (fun g : GSem nD τ sig => g.1.1) h, semOf_inj (congrArg Prod.snd h)⟩

/-! ## What the copies carry -/

variable (P : Dev nD → S512x1024.Idx → Elt F .bf16)

/-- Slot `s` of device `c`'s first receive buffer, at contents `f`. -/
def rsPts (c s : Dev nD) (f : S32x16x1024.Idx → Elt F .bf16) : sProp 𝕄 :=
  (rsV s).view.loc (c : Thread nD τ) ↦[(rsV s).view.set]{fullShare} f
/-- Slot `s` of device `c`'s second receive buffer, at contents `f`. -/
def agPts (c s : Dev nD) (f : S32x16x1024.Idx → Elt F .bf16) : sProp 𝕄 :=
  (agV s).view.loc (c : Thread nD τ) ↦[(agV s).view.set]{fullShare} f
/-- Row block `s` of device `c`'s partial product. -/
def partPts (c s : Dev nD) : sProp 𝕄 :=
  (partV s).view.loc (c : Thread nD τ) ↦[(partV s).view.set]{fullShare} P c
/-- Share `i` of device `c`'s rows of the sum. -/
def bcPts (c : Dev nD) (i : Fin (2 ^ 5)) : sProp 𝕄 :=
  bcM.view.loc (c : Thread nD τ) ↦[bcM.view.set]{ShareLeaves.leaf 5 fullShare i} BC P c

instance rsPts_storable (c s : Dev nD) (f) : BI.Storable (upEmb : UEmb _ 𝕄) (rsPts (F := F) c s f) := by unfold rsPts; infer_instance
instance agPts_storable (c s : Dev nD) (f) : BI.Storable (upEmb : UEmb _ 𝕄) (agPts (F := F) c s f) := by unfold agPts; infer_instance
instance partPts_storable (c s : Dev nD) : BI.Storable (upEmb : UEmb _ 𝕄) (partPts (F := F) P c s) := by unfold partPts; infer_instance
instance bcPts_storable (c : Dev nD) (i) : BI.Storable (upEmb : UEmb _ 𝕄) (bcPts (F := F) P c i) := by unfold bcPts; infer_instance

/-- What device `d` hands to device `c` when it enters: its slots `c`, at any contents. -/
def enterPay (c d : Dev nD) : sProp 𝕄 := iprop((∃ f, rsPts d c f) ∗ ∃ f, agPts d c f)

/-! ## The schedule -/

/-- Who adds to device `c`'s semaphore of a kind. -/
def dutiesK (c : Dev nD) : Kd → Finset (Dev nD)
  | kBar => Finset.univ.erase c
  | kRss _ => {c}
  | kRsr s => if s = c then ∅ else {s}
  | kAgs _ => {c}
  | kAgr s => if s = c then ∅ else {s}

/-- How much. -/
def amountK : Kd → ℕ
  | kBar => 1
  | .inr _ => N

/-- What comes with it. -/
def payK (c : Dev nD) (d : Dev nD) : Kd → sProp 𝕄
  | kBar => enterPay c d
  | kRss j => partPts P c (peer c j)
  | kRsr s => rsPts c s (RS P c)
  | kAgs j => bcPts P c (j.castLE (by decide))
  | kAgr s => agPts c s (AG P)

theorem amountK_pos (k : Kd) : 0 < amountK k := by
  rcases k with ⟨⟩ | k
  · exact Nat.one_pos
  · exact N_pos

/-- The exchange's schedule. -/
def Rd : Rounds.Schedule (GSem nD τ sig) (Dev nD) 𝕄 where
  duties g r := if r = 0 ∧ g.1.2 = .tc then (match kindOf g.2 with | some k => dutiesK g.1.1 k | none => ∅) else ∅
  unitless _ := False
  amount g _ _ := match kindOf g.2 with | some k => amountK k | none => 1
  payload g _ d := match kindOf g.2 with | some k => payK P g.1.1 d k | none => iprop(emp)
  amount_pos g _ _ _ := by
    cases h : kindOf g.2 with
    | none => exact Nat.one_pos
    | some k => exact amountK_pos k

instance payK_storable (c d : Dev nD) (k : Kd) : BI.Storable (upEmb : UEmb _ 𝕄) (payK (F := F) P c d k) := by
  rcases k with ⟨⟩ | (j | s) | (j | s) <;> (unfold payK; try unfold enterPay) <;> infer_instance

instance Rd_payload_storable (g : GSem nD τ sig) (r : ℕ) (d : Dev nD) : BI.Storable (upEmb : UEmb _ 𝕄) ((Rd (F := F) P).payload g r d) := by
  show BI.Storable upEmb (match kindOf g.2 with | some k => payK P g.1.1 d k | none => iprop(emp))
  cases kindOf g.2 with
  | none => infer_instance
  | some k => exact payK_storable P _ _ k

theorem duties_cell (c : Dev nD) (k : Kd) : (Rd (F := F) P).duties (cell c k) 0 = dutiesK c k := by
  dsimp only [Rd]; rw [if_pos ⟨rfl, rfl⟩, kindOf_semOf]
theorem amount_cell (c : Dev nD) (k : Kd) (d : Dev nD) : (Rd (F := F) P).amount (cell c k) 0 d = amountK k := by
  dsimp only [Rd]; rw [kindOf_semOf]
theorem payload_cell (c : Dev nD) (k : Kd) (d : Dev nD) : (Rd (F := F) P).payload (cell c k) 0 d = payK P c d k := by
  dsimp only [Rd]; rw [kindOf_semOf]
theorem duties_later (g : GSem nD τ sig) : ∀ r, 1 ≤ r → (Rd (F := F) P).duties g r = ∅ :=
  fun r hr => by dsimp only [Rd]; rw [if_neg fun h => by omega]
theorem expect_cell (c : Dev nD) (k : Kd) : (Rd (F := F) P).expect (cell c k) 0 = (dutiesK c k).card * amountK k := by
  unfold Schedule.expect Schedule.amountOf
  rw [duties_cell, Finset.sum_congr rfl fun d _ => amount_cell P c k d, Finset.sum_const, smul_eq_mul]

/-- What all of a round brings. -/
theorem rest_cell (c : Dev nD) (k : Kd) :
    bigSep ((Rd (F := F) P).duties (cell c k) 0 \ ∅) (fun d => (Rd (F := F) P).payload (cell c k) 0 d) = bigSep (dutiesK c k) fun d => payK P c d k := by
  rw [Finset.sdiff_empty, duties_cell]; exact bigSep_congr fun d _ => payload_cell P c k d

theorem expect_bar (c : Dev nD) : (Rd (F := F) P).expect (cell c kBar) 0 = 31 := by
  rw [expect_cell]; show (Finset.univ.erase c).card * 1 = 31
  rw [Finset.card_erase_of_mem (Finset.mem_univ _), Finset.card_univ, Fintype.card_fin]; rfl
theorem expect_rss (c : Dev nD) (j : Fin 31) : (Rd (F := F) P).expect (cell c (kRss j)) 0 = N := by
  rw [expect_cell]; exact Nat.one_mul _
theorem expect_ags (c : Dev nD) (j : Fin 31) : (Rd (F := F) P).expect (cell c (kAgs j)) 0 = N := by
  rw [expect_cell]; exact Nat.one_mul _
theorem dutiesK_rsr (c s : Dev nD) (h : s ≠ c) : dutiesK c (kRsr s) = {s} := if_neg h
theorem dutiesK_agr (c s : Dev nD) (h : s ≠ c) : dutiesK c (kAgr s) = {s} := if_neg h
theorem expect_rsr (c s : Dev nD) (h : s ≠ c) : (Rd (F := F) P).expect (cell c (kRsr s)) 0 = N := by
  rw [expect_cell, dutiesK_rsr c s h]; exact Nat.one_mul _
theorem expect_agr (c s : Dev nD) (h : s ≠ c) : (Rd (F := F) P).expect (cell c (kAgr s)) 0 = N := by
  rw [expect_cell, dutiesK_agr c s h]; exact Nat.one_mul _

/-! ## What each device owes, and the order of the waits -/

/-- What device `c` still owes to the entry semaphores of the peers in a list; -/
def oBar (c : Dev nD) (l : List (Fin 31)) : CellTallies nD τ sig Unit := (l.map fun j => tallyAt (cell (peer c j) kBar) () 1).sum
/-- to their arrival semaphores of the first exchange; -/
def oRs (c : Dev nD) (l : List (Fin 31)) : CellTallies nD τ sig Unit := (l.map fun j => tallyAt (cell (peer c j) (kRsr c)) () N).sum
/-- and of the second. -/
def oAg (c : Dev nD) (l : List (Fin 31)) : CellTallies nD τ sig Unit := (l.map fun j => tallyAt (cell (peer c j) (kAgr c)) () N).sum
/-- What it owes at the start. -/
def O₀ (c : Dev nD) : CellTallies nD τ sig Unit := oAg c js + oRs c js + oBar c js

/-- The levels: the entry semaphore below the first exchange's arrivals, these below the second's; all others at the bottom. -/
def lvK : Kd → ℕ
  | kBar => 1
  | kRss _ => 0
  | kRsr _ => 2
  | kAgs _ => 0
  | kAgr _ => 3
def L (g : GSem nD τ sig) : Finset Unit := if g.1.2 = .tc then {()} else ∅
def lv (g : GSem nD τ sig) (_ : Unit) : ℕ := match kindOf g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kd) (u : Unit) : lv (cell c k) u = lvK k := by dsimp only [lv]; rw [kindOf_semOf]

/-- Whatever is owed in a tally lies on a TensorCore's semaphore at a level above `b`. -/
def Above (b : ℕ) (O : CellTallies nD τ sig Unit) : Prop := ∀ g u, 0 < O g u → g.1.2 = .tc ∧ b < lv g u

theorem above_zero (b : ℕ) : Above b 0 := fun g u h => absurd h (Nat.lt_irrefl 0)
theorem above_add {b : ℕ} {O O' : CellTallies nD τ sig Unit} (h : Above b O) (h' : Above b O') : Above b (O + O') := fun g u hg => by
  rw [Pi.add_apply, Finsupp.add_apply] at hg
  by_cases h0 : 0 < O g u
  · exact h g u h0
  · exact h' g u (by omega)
theorem above_tally {b n : ℕ} (c : Dev nD) (k : Kd) (hk : b < lvK k) : Above b (tallyAt (cell c k) () n) := fun g u hg => by
  rw [tallyAt_apply] at hg
  by_cases h : g = cell c k ∧ u = ()
  · rw [h.1, lv_cell]; exact ⟨rfl, hk⟩
  · rw [if_neg h] at hg; exact absurd hg (Nat.lt_irrefl 0)
theorem above_sum {b : ℕ} (l : List (Fin 31)) (f : Fin 31 → CellTallies nD τ sig Unit) (h : ∀ j, Above b (f j)) : Above b (l.map f).sum := by
  induction l with
  | nil => exact above_zero b
  | cons j l ih => rw [List.map_cons, List.sum_cons]; exact above_add (h j) ih
theorem above_oBar (c : Dev nD) (l : List (Fin 31)) : Above 0 (oBar c l) := above_sum l _ fun j => above_tally _ _ (by decide)
theorem above_oRs (c : Dev nD) (l : List (Fin 31)) {b : ℕ} (hb : b < 2) : Above b (oRs c l) := above_sum l _ fun j => above_tally _ _ hb
theorem above_oAg (c : Dev nD) (l : List (Fin 31)) {b : ℕ} (hb : b < 3) : Above b (oAg c l) := above_sum l _ fun j => above_tally _ _ hb

/-- A device may wait on a semaphore when all it owes lies above. -/
theorem mayWait_of_above (c : Dev nD) (sm : SemLoc sig) (b : ℕ) (hb : lv ((c : Thread nD τ), sm) () ≤ b) (O : CellTallies nD τ sig Unit) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by cases u; unfold L; rw [if_pos (hO g () hg).1]; exact Finset.mem_singleton_self _)
    (fun p hp => by rw [Finset.mem_singleton.mp hp]; exact hb)
    (fun g u hg => (hO g u hg).2)

theorem mayWait_cell (c : Dev nD) (k : Kd) (b : ℕ) (hb : lvK k ≤ b) (O : CellTallies nD τ sig Unit) (hO : Above b O) :
    (levAts L lv : sProp 𝕄) ⊢ MayWait (c : Thread nD τ) (semOf k) () O :=
  mayWait_of_above c (semOf k) b (by rw [lv_cell]; exact hb) O hO

end Cert.KernelIdealProof

end
-- ==== Proof.StepsIdeal.lean ====
/-
  One step of each of the kernel's loops over the peers: what the step takes, what it gives, and what it leaves owed.
-/
module

public import proofs.«01_k».proof.Proof.SchedIdeal

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- The weakest precondition of a program of device `c`'s body. -/
abbrev WP (c : Dev nD) (p : BodyProg F) (Q : PUnit → sProp 𝕄) : sProp 𝕄 :=
  wp frame (wpE (defs₀ (F := F)) 𝒱₀ (c : Thread nD τ) none) Set.univ p Q

/-- A loop over a list of peers, from its step: each step turns its own `Φ j` into `Ψ j` and the running state at `j :: l` into
    the one at `l`. -/
theorem wp_seqL (c : Dev nD) (f : Fin 31 → BodyProg F) (Φ Ψ : Fin 31 → sProp 𝕄) (T : List (Fin 31) → sProp 𝕄)
    (hstep : ∀ (j : Fin 31) (l : List (Fin 31)) (k : PUnit → BodyProg F) (Q : PUnit → sProp 𝕄),
      iprop(Φ j ∗ T (j :: l)) ⊢ iprop(((Ψ j ∗ T l) -∗ WP c (k ⟨⟩) Q) -∗ WP c (f j >>= k) Q)) :
    ∀ (l : List (Fin 31)), l.Nodup → ∀ (k : PUnit → BodyProg F) (Q : PUnit → sProp 𝕄),
      iprop(bigSep l.toFinset Φ ∗ T l) ⊢ iprop(((bigSep l.toFinset Ψ ∗ T []) -∗ WP c (k ⟨⟩) Q) -∗ WP c (seqL f l >>= k) Q)
  | [], _, k, Q => by
    show iprop(bigSep ∅ Φ ∗ T []) ⊢ iprop(((bigSep ∅ Ψ ∗ T []) -∗ WP c (k ⟨⟩) Q) -∗ WP c (k ⟨⟩) Q)
    rw [bigSep_empty, bigSep_empty]
    iintro ⟨He, HT⟩ Hk
    iapply Hk
    isplitl [He]; · iexact He
    iexact HT
  | j :: l, hl, k, Q => by
    have hj : j ∉ l.toFinset := fun h => (List.nodup_cons.mp hl).1 (List.mem_toFinset.mp h)
    rw [List.toFinset_cons, bigSep_insert hj, bigSep_insert hj]
    have e : seqL f (j :: l) >>= k = f j >>= fun _ => seqL f l >>= k := bind_assoc _ _ _
    rw [e]
    refine (show iprop((Φ j ∗ bigSep l.toFinset Φ) ∗ T (j :: l)) ⊢ iprop((((Ψ j ∗ bigSep l.toFinset Ψ) ∗ T []) -∗ WP c (k ⟨⟩) Q) -∗ WP c (f j >>= fun _ => seqL f l >>= k) Q) from ?_)
    iintro ⟨⟨Hj, Hl⟩, HT⟩ Hk
    iapply (hstep j l (fun _ => seqL f l >>= k) Q) $$ [Hj HT]
    · isplitl [Hj] <;> iassumption
    iintro ⟨Hj, HT⟩
    iapply (wp_seqL c f Φ Ψ T hstep l (List.nodup_cons.mp hl).2 k Q) $$ [Hl HT]
    · isplitl [Hl] <;> iassumption
    iintro ⟨Hl, HT⟩
    iapply Hk
    isplitr [HT]
    · isplitl [Hj] <;> iassumption
    iexact HT

/-- The loop over all the peers. -/
theorem wp_loop (c : Dev nD) (f : Fin 31 → BodyProg F) (Φ Ψ : Fin 31 → sProp 𝕄) (T : List (Fin 31) → sProp 𝕄)
    (hstep : ∀ (j : Fin 31) (l : List (Fin 31)) (k : PUnit → BodyProg F) (Q : PUnit → sProp 𝕄),
      iprop(Φ j ∗ T (j :: l)) ⊢ iprop(((Ψ j ∗ T l) -∗ WP c (k ⟨⟩) Q) -∗ WP c (f j >>= k) Q)) (k : PUnit → BodyProg F) (Q : PUnit → sProp 𝕄) :
    iprop(bigSep Finset.univ Φ ∗ T js) ⊢ iprop(((bigSep Finset.univ Ψ ∗ T []) -∗ WP c (k ⟨⟩) Q) -∗ WP c (seqL f js >>= k) Q) := by
  have h := wp_seqL c f Φ Ψ T hstep js js_nodup k Q
  rw [js_toFinset] at h; exact h

variable (P : Dev nD → S512x1024.Idx → Elt F .bf16) (K : Dev nD × Kd → ℕ)

/-- Every semaphore of the protocol has its invariant, and its round 0 is reached. -/
def records : sProp 𝕄 :=
  iprop((bigSep Finset.univ fun ck : Dev nD × Kd => cellInv ER (Rd P) (K ck) (cell ck.1 ck.2))
    ∗ bigSep Finset.univ fun ck : Dev nD × Kd => reached ER (cell ck.1 ck.2) 0)

instance records_persistent : BI.Persistent (records P K) := by unfold records; infer_instance

theorem inv_at (c : Dev nD) (k : Kd) : records P K ⊢ cellInv ER (Rd P) (K (c, k)) (cell c k) := by
  unfold records
  exact sep_elim_left.trans (bigSep_elim (Φ := fun ck : Dev nD × Kd => (cellInv ER (Rd P) (K ck) (cell ck.1 ck.2) : sProp 𝕄)) (Finset.mem_univ (c, k)))
theorem reached_at (c : Dev nD) (k : Kd) : records P K ⊢ reached ER (cell c k) 0 := by
  unfold records
  exact sep_elim_right.trans (bigSep_elim (Φ := fun ck : Dev nD × Kd => (reached ER (cell ck.1 ck.2) 0 : sProp 𝕄)) (Finset.mem_univ (c, k)))

/-- Device `c` owes `O`, and its records hold. -/
def run (c : Dev nD) (O : CellTallies nD τ sig Unit) : sProp 𝕄 :=
  iprop(records P K ∗ levAts L lv ∗ ∃ W, owes (c : Thread nD τ) O W)

/-! ## What is owed, one peer at a time -/

theorem peel_oBar (c : Dev nD) (j : Fin 31) (l : List (Fin 31)) (O : CellTallies nD τ sig Unit) :
    O + oBar c (j :: l) = O + oBar c l + tallyAt (cell (peer c j) kBar) () 1 := by
  rw [show oBar c (j :: l) = tallyAt (cell (peer c j) kBar) () 1 + oBar c l from rfl, add_assoc, add_comm (oBar c l)]
theorem peel_oRs (c : Dev nD) (j : Fin 31) (l : List (Fin 31)) (O : CellTallies nD τ sig Unit) :
    O + oRs c (j :: l) = O + oRs c l + tallyAt (cell (peer c j) (kRsr c)) () N := by
  rw [show oRs c (j :: l) = tallyAt (cell (peer c j) (kRsr c)) () N + oRs c l from rfl, add_assoc, add_comm (oRs c l)]
theorem peel_oAg (c : Dev nD) (j : Fin 31) (l : List (Fin 31)) :
    oAg c (j :: l) = oAg c l + tallyAt (cell (peer c j) (kAgr c)) () N := by
  rw [show oAg c (j :: l) = tallyAt (cell (peer c j) (kAgr c)) () N + oAg c l from rfl, add_comm (oAg c l)]

/-! ## Entering -/

/-- One signal: the device's slots for the peer go with it. -/
theorem step_barSig (c : Dev nD) (j : Fin 31) (l : List (Fin 31)) (k : PUnit → BodyProg F) (Q : PUnit → sProp 𝕄) :
    iprop((dutyTok ER (cell (peer c j) kBar) 0 c ∗ enterPay (peer c j) c) ∗ run P K c (oAg c js + oRs c js + oBar c (j :: l)))
      ⊢ iprop(((emp ∗ run P K c (oAg c js + oRs c js + oBar c l)) -∗ WP c (k ⟨⟩) Q) -∗ WP c (barSig c j >>= k) Q) := by
  have hn : (⟨devA j c, devA_lt j c⟩ : Dev nD) = peer c j := Fin.ext (devA_eq j c)
  unfold barSig
  rw [hn]
  simp only [semSignalWord, Prog.lift, Prog.bind_op, Prog.bind_ret, Prog.pure_eq_ret]
  unfold run
  iintro ⟨⟨Ht, Hp⟩, #Hr, #Hlev, ⟨%W, HO⟩⟩ Hk
  iapply (show iprop(cellInv ER (Rd P) (K (peer c j, kBar)) (cell (peer c j) kBar) ∗ owes (c : Thread nD τ) (oAg c js + oRs c js + oBar c (j :: l)) W
        ∗ dutyTok ER (cell (peer c j) kBar) 0 c ∗ enterPay (peer c j) c ∗ reached ER (cell (peer c j) kBar) 0)
      ⊢ iprop((owes (c : Thread nD τ) (oAg c js + oRs c js + oBar c l) W -∗ WP c (k ⟨⟩) Q)
        -∗ WP c (.op (.semSignal (peer c j : Thread nD τ) barSem 1) k) Q) from by
      have hp := payload_cell P (peer c j) kBar c
      rw [← show payK P (peer c j) c kBar = enterPay (peer c j) c from rfl, ← hp]
      exact Rounds.wp_signal 𝒱₀ ER (Rd P) (c : Thread nD τ) none (dst := (peer c j : Thread nD τ)) (sem := barSem) (r := 0) (κ := K (peer c j, kBar))
        (d := c) (by rw [show (((peer c j : Dev nD) : Thread nD τ), SemLoc.reg barSem) = cell (peer c j) kBar from rfl, duties_cell]
                     exact Finset.mem_erase.mpr ⟨(peer_ne c j).symm, Finset.mem_univ _⟩)
        (amount_cell P (peer c j) kBar c) () (oAg c js + oRs c js + oBar c l) (peel_oBar c j l _)) $$ [HO Ht Hp]
  · isplitr; · iapply (inv_at P K (peer c j) kBar); iexact Hr
    isplitl [HO]; · iexact HO
    isplitl [Ht]; · iexact Ht
    isplitl [Hp]; · iexact Hp
    iapply (reached_at P K (peer c j) kBar); iexact Hr
  iintro HO
  iapply Hk
  isplitr; · iempintro
  isplitr; · iexact Hr
  isplitr; · iexact Hlev
  iexists W; iexact HO

/-- The wait for all the peers: it brings the peers' slots for this device. -/
theorem step_barWait (c : Dev nD) (k : PUnit → BodyProg F) (Q : PUnit → sProp 𝕄) :
    iprop((cred (tallyAt (cell c kBar) () 31) ∗ atPos ER (cell c kBar) 0 ∅ 0) ∗ run P K c (oAg c js + oRs c js))
      ⊢ iprop((((bigSep Finset.univ fun j => enterPay c (peer c j)) ∗ atPos ER (cell c kBar) 1 ∅ 0) ∗ run P K c (oAg c js + oRs c js) -∗ WP c (k ⟨⟩) Q)
        -∗ WP c (barWait >>= k) Q) := by
  unfold barWait
  simp only [semWaitWord, Prog.lift, Prog.bind_op, Prog.bind_ret, Prog.pure_eq_ret]
  unfold run
  iintro ⟨⟨Hc, Ha⟩, #Hr, #Hlev, ⟨%W, HO⟩⟩ Hk
  iapply (Rounds.wp_wait_rest_token 𝒱₀ ER (Rd P) (c : Thread nD τ) none (κ := K (c, kBar))
      (wpE_semWait_eq 𝒱₀ (c : Thread nD τ) none Set.univ) (Set.mem_univ _) () (O := oAg c js + oRs c js) (W := W) (R := 0) (m := 0) (T := ∅)
      ((by decide : _ = 31).trans (expect_bar P c).symm)) $$ [Hc HO Ha]
  · isplitr; · iapply (inv_at P K c kBar); iexact Hr
    isplitl [Hc]; · iexact Hc
    isplitl [HO]; · iexact HO
    isplitr
    · iapply (mayWait_cell c kBar 1 (by decide) _ (above_add (above_oAg c js (by decide)) (above_oRs c js (by decide)))); iexact Hlev
    iexact Ha
  iintro ⟨HO, Ha, -, Hp⟩
  iapply Hk
  isplitl [Hp Ha]
  · isplitl [Hp]
    · iapply (Entails.of_eq (show bigSep ((Rd (F := F) P).duties (cell c kBar) 0 \ ∅) (fun d => (Rd (F := F) P).payload (cell c kBar) 0 d) = bigSep Finset.univ fun j => enterPay c (peer c j) from by
        rw [rest_cell]; show bigSep (Finset.univ.erase c) (fun d => enterPay c d) = _
        rw [← peers_eq c, bigSep_map]; rfl))
      iexact Hp
    iexact Ha
  isplitr; · iexact Hr
  isplitr; · iexact Hlev
  iexists _; iexact HO

/-! ## Waits on the kernel's own semaphores -/

/-- The wait for all of round 0 of a semaphore that one copy credits. -/
theorem step_wait (c : Dev nD) (kd : OK) (O : CellTallies nD τ sig Unit) (b : ℕ) (hb : lvK (.inr kd) ≤ b) (hO : Above b O)
    (he : (Rd (F := F) P).expect (cell c (.inr kd)) 0 = N) (sm : DmaSem sig) (hs : SemLoc.dma sm = semOf (.inr kd))
    {sp sp' : Space} {sh sh' : Shape} {e e' : EltTy} (src : Memref sig .tc sp sh e) (dst : Memref sig .tc sp' sh' e')
    (p : BodyProg F) {h₁ : src.view.WordExact} {h₂ : dst.view.WordExact} (hp : p = Prog.lift (.waitDma2 sm src dst h₁ h₂)) (hN : dst.view.dmaCredit = N) (k : PUnit → BodyProg F) (Q : PUnit → sProp 𝕄) :
    iprop((cred (tallyAt (cell c (.inr kd)) () N) ∗ atPos ER (cell c (.inr kd)) 0 ∅ 0) ∗ run P K c O)
      ⊢ iprop(((bigSep (dutiesK c (.inr kd)) (fun d => payK P c d (.inr kd)) ∗ atPos ER (cell c (.inr kd)) 1 ∅ 0) ∗ run P K c O -∗ WP c (k ⟨⟩) Q)
        -∗ WP c (p >>= k) Q) := by
  subst hp
  simp only [Prog.lift, Prog.bind_op, Prog.bind_ret, Prog.pure_eq_ret]
  unfold run
  iintro ⟨⟨Hc, Ha⟩, #Hr, #Hlev, ⟨%W, HO⟩⟩ Hk
  iapply (show iprop(cellInv ER (Rd P) (K (c, .inr kd)) (cell c (.inr kd)) ∗ cred (tallyAt (cell c (.inr kd)) () N) ∗ owes (c : Thread nD τ) O W
        ∗ MayWait (c : Thread nD τ) (semOf (.inr kd)) () O ∗ atPos ER (cell c (.inr kd)) 0 ∅ 0)
      ⊢ iprop(((owes (c : Thread nD τ) O (insert (semOf (.inr kd), ()) W) ∗ atPos ER (cell c (.inr kd)) (0 + 1) ∅ 0 ∗ reached ER (cell c (.inr kd)) (0 + 1)
          ∗ bigSep ((Rd (F := F) P).duties (cell c (.inr kd)) 0 \ ∅) (fun d => (Rd (F := F) P).payload (cell c (.inr kd)) 0 d)) -∗ WP c (k ⟨⟩) Q)
        -∗ WP c (.op (.waitDma2 sm src dst h₁ h₂) k) Q) from by
      unfold cell; rw [← hs, ← hN]
      exact Rounds.wp_wait_rest_token 𝒱₀ ER (Rd P) (c : Thread nD τ) none (κ := K (c, .inr kd))
        (wpE_waitDma2_eq 𝒱₀ (c : Thread nD τ) none Set.univ) (Set.mem_univ _) () (O := O) (W := W) (R := 0) (m := 0) (T := ∅)
        (by rw [Nat.zero_add, hs, hN]; exact he.symm)) $$ [Hc HO Ha]
  · isplitr; · iapply (inv_at P K c (.inr kd)); iexact Hr
    isplitl [Hc]; · iexact Hc
    isplitl [HO]; · iexact HO
    isplitr; · iapply (mayWait_cell c (.inr kd) b hb O hO); iexact Hlev
    iexact Ha
  iintro ⟨HO, Ha, -, Hp⟩
  iapply Hk
  isplitl [Hp Ha]
  · isplitl [Hp]
    · iapply (Entails.of_eq (rest_cell P c (.inr kd))); iexact Hp
    iexact Ha
  isplitr; · iexact Hr
  isplitr; · iexact Hlev
  iexists _; iexact HO

/-! ## Sends -/

/-- One copy to peer `j`: it takes the rows to send, the slot they go to and the two duties it pays, and leaves the credit to
    wait for the copy's leaving. -/
theorem step_send (c : Dev nD) (j : Fin 31) (ks kr : OK) (O₀ O : CellTallies nD τ sig Unit)
    (hO : O₀ = O + tallyAt (cell (peer c j) (.inr kr)) () N)
    (hd₁ : c ∈ dutiesK c (.inr ks)) (hd₂ : c ∈ dutiesK (peer c j) (.inr kr))
    (sS sR : DmaSem sig) (hs : SemLoc.dma sS = semOf (.inr ks)) (hr : SemLoc.dma sR = semOf (.inr kr))
    (n : Dev nD) (hn : n = peer c j) {sh : Shape} {e : EltTy} (src dst src' dst' : Memref sig .tc .vmem sh e) (hsrc : src' = src)
    (hdst : dst' = dst) (hN : dst.view.dmaCredit = N)
    (q : PosShare TreeShare) (fs : Buf (Elt F) (src.view.loc (c : Thread nD τ))) (fd : Buf (Elt F) (dst.view.loc (peer c j : Thread nD τ)))
    (hpay₁ : (src.view.loc (c : Thread nD τ) ↦[src.view.set]{q} fs : sProp 𝕄) ⊢ payK P c c (.inr ks))
    (hpay₂ : (dst.view.loc (peer c j : Thread nD τ) ↦[dst.view.set]{fullShare} (dst.view.write (Elt F) fd (src.view.read (Elt F) fs) Finset.univ) : sProp 𝕄) ⊢ payK P (peer c j) c (.inr kr))
    {hsc : (dst' : Memref sig (Dev.tc n : Thread nD τ).2.kind .vmem sh e).view.ref.isScScratch = false} {h₁ : src'.view.WordExact} {h₂ : dst'.view.WordExact}
    {hsem : DmaTarget.Typed .vmem (.dma sR) (.remote (Dev.tc n : Thread nD τ) dst' (.dma sS) hsc)} (p : BodyProg F)
    (hp : p = Prog.lift (.enqueueDma src' (.remote (Dev.tc n : Thread nD τ) dst' (.dma sS) hsc) (.dma sR) h₁ h₂ hsem)) (k : PUnit → BodyProg F) (Q : PUnit → sProp 𝕄) :
    iprop(((src.view.loc (c : Thread nD τ) ↦[src.view.set]{q} fs) ∗ (dst.view.loc (peer c j : Thread nD τ) ↦[dst.view.set]{fullShare} fd)
        ∗ dutyTok ER (cell c (.inr ks)) 0 c ∗ dutyTok ER (cell (peer c j) (.inr kr)) 0 c) ∗ run P K c O₀)
      ⊢ iprop((cred (tallyAt (cell c (.inr ks)) () N) ∗ run P K c O -∗ WP c (k ⟨⟩) Q) -∗ WP c (p >>= k) Q) := by
  subst hp; subst hn; subst hsrc; subst hdst
  simp only [Prog.lift, Prog.bind_op, Prog.bind_ret, Prog.pure_eq_ret]
  unfold run
  iintro ⟨⟨Hs, Hd, Ht₁, Ht₂⟩, #Hr, #Hlev, ⟨%W, HO⟩⟩ Hk
  iapply (show iprop(cellInv ER (Rd P) (K (c, .inr ks)) (cell c (.inr ks)) ∗ cellInv ER (Rd P) (K (peer c j, .inr kr)) (cell (peer c j) (.inr kr))
        ∗ (src'.view.loc (c : Thread nD τ) ↦[src'.view.set]{q} fs) ∗ (dst'.view.loc (peer c j : Thread nD τ) ↦[dst'.view.set]{fullShare} fd)
        ∗ owes (c : Thread nD τ) O₀ W
        ∗ dutyTok ER (cell c (.inr ks)) 0 c ∗ reached ER (cell c (.inr ks)) 0
        ∗ dutyTok ER (cell (peer c j) (.inr kr)) 0 c ∗ reached ER (cell (peer c j) (.inr kr)) 0)
      ⊢ iprop(((cred (tallyAt (cell c (.inr ks)) () N) ∗ owes (c : Thread nD τ) O W) -∗ WP c (k ⟨⟩) Q)
        -∗ WP c (.op (.enqueueDma src' (.remote (Dev.tc (peer c j) : Thread nD τ) dst' (.dma sS) hsc) (.dma sR) h₁ h₂ hsem) k) Q) from by
      have ha₁ := amount_cell P c (.inr ks) c
      have ha₂ := amount_cell P (peer c j) (.inr kr) c
      have hm₁ := duties_cell P c (.inr ks)
      have hm₂ := duties_cell P (peer c j) (.inr kr)
      have hp₁ := payload_cell P c (.inr ks) c
      have hp₂ := payload_cell P (peer c j) (.inr kr) c
      have hO' : O₀ = O + tallyAt ((peer c j : Thread nD τ), SemLoc.dma sR) () N := by rw [hr]; exact hO
      unfold cell at *
      rw [← hs] at *
      rw [← hr] at *
      exact Rounds.wp_send_pointsTo 𝒱₀ ER (Rd P) (c : Thread nD τ) none (κ₁ := K (c, .inr ks)) (κ₂ := K (peer c j, .inr kr))
        (r₁ := 0) (r₂ := 0) (d₁ := c) (d₂ := c) (fd := fd)
        (by rw [hm₁]; exact hd₁) (by rw [hm₂]; exact hd₂)
        () () N (show dst'.view.amount (.dma sR) = N from hN) ha₁ ha₂ O hO' (W := W)
        (by rw [hp₁]; exact hpay₁) (by rw [hp₂]; exact hpay₂)) $$ [Hs Hd HO Ht₁ Ht₂]
  · isplitr; · iapply (inv_at P K c (.inr ks)); iexact Hr
    isplitr; · iapply (inv_at P K (peer c j) (.inr kr)); iexact Hr
    isplitl [Hs]; · iexact Hs
    isplitl [Hd]; · iexact Hd
    isplitl [HO]; · iexact HO
    isplitl [Ht₁]; · iexact Ht₁
    isplitr; · iapply (reached_at P K c (.inr ks)); iexact Hr
    isplitl [Ht₂]; · iexact Ht₂
    iapply (reached_at P K (peer c j) (.inr kr)); iexact Hr
  iintro ⟨Hc, HO⟩
  iapply Hk
  isplitl [Hc]; · iexact Hc
  isplitr; · iexact Hr
  isplitr; · iexact Hlev
  iexists W; iexact HO

end Cert.KernelIdealProof

end
-- ==== Proof.LoopsIdeal.lean ====
/-
  The kernel's seven loops over the peers, each as one statement: what the whole loop takes and what it gives.
-/
module

public import proofs.«01_k».proof.Proof.StepsIdeal

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → S512x1024.Idx → Elt F .bf16) (K : Dev nD × Kd → ℕ)

/-- Slices at equal offsets are equal. -/
theorem slice_rows {o o' : Fin 2 → ℕ} (h : o = o') (hi : ∀ a, o a + S16x1024.size a ≤ S512x1024.size a) (hi' : ∀ a, o' a + S16x1024.size a ≤ S512x1024.size a)
    (m : Memref sig .tc .vmem S512x1024 .bf16) :
    m.slice (Rect.unit (s := S512x1024) o S16x1024.size hi) (fun _ => rfl) = m.slice (Rect.unit (s := S512x1024) o' S16x1024.size hi') (fun _ => rfl) := by
  subst h; rfl
theorem slice_slot {o o' : Fin 3 → ℕ} (h : o = o') (hi : ∀ a, o a + S1x16x1024.size a ≤ S32x16x1024.size a) (hi' : ∀ a, o' a + S1x16x1024.size a ≤ S32x16x1024.size a)
    (m : Memref sig .tc .vmem S32x16x1024 .bf16) :
    (m.slice (Rect.unit (s := S32x16x1024) o S1x16x1024.size hi) (fun _ => rfl)).squeeze S16x1024 squeezes_S1x16x1024_S16x1024
      = (m.slice (Rect.unit (s := S32x16x1024) o' S1x16x1024.size hi') (fun _ => rfl)).squeeze S16x1024 squeezes_S1x16x1024_S16x1024 := by
  subst h; rfl

/-- Slot `s` of the first receive buffer at contents that agree there. -/
theorem rsPts_congr (c s : Dev nD) (f g : S32x16x1024.Idx → Elt F .bf16) (h : ∀ i ∈ (rsV s).view.set, f i = g i) : (rsPts c s f : sProp 𝕄) ⊢ rsPts c s g := by
  unfold rsPts
  exact Entails.of_eq (pointsTo_congr h)
theorem agPts_congr (c s : Dev nD) (f g : S32x16x1024.Idx → Elt F .bf16) (h : ∀ i ∈ (agV s).view.set, f i = g i) : (agPts c s f : sProp 𝕄) ⊢ agPts c s g := by
  unfold agPts
  exact Entails.of_eq (pointsTo_congr h)

/-- Entering: a signal to every peer. -/
theorem loop_barSig (c : Dev nD) (k : PUnit → BodyProg F) (Q : PUnit → sProp 𝕄) :
    iprop((bigSep Finset.univ fun j => iprop(dutyTok ER (cell (peer c j) kBar) 0 c ∗ enterPay (peer c j) c)) ∗ run P K c (O₀ c))
      ⊢ iprop((run P K c (oAg c js + oRs c js) -∗ WP c (k ⟨⟩) Q) -∗ WP c (seqL (barSig c) js >>= k) Q) := by
  have h := wp_loop c (barSig c) (fun j => iprop(dutyTok ER (cell (peer c j) kBar) 0 c ∗ enterPay (peer c j) c)) (fun _ => iprop(emp))
    (fun l => run P K c (oAg c js + oRs c js + oBar c l)) (step_barSig P K c) k Q
  rw [show oAg c js + oRs c js + oBar c [] = oAg c js + oRs c js from add_zero _] at h
  unfold O₀
  iintro H Hk
  iapply h $$ H
  iintro ⟨-, H⟩
  iapply Hk; iexact H

/-- The first exchange's copies. -/
theorem loop_rsSend (c : Dev nD) (k : PUnit → BodyProg F) (Q : PUnit → sProp 𝕄) :
    iprop((bigSep Finset.univ fun j => iprop(partPts P c (peer c j) ∗ (∃ f, rsPts (peer c j) c f) ∗ dutyTok ER (cell c (kRss j)) 0 c ∗ dutyTok ER (cell (peer c j) (kRsr c)) 0 c))
        ∗ run P K c (oAg c js + oRs c js))
      ⊢ iprop(((bigSep Finset.univ fun j => cred (tallyAt (cell c (kRss j)) () N)) ∗ run P K c (oAg c js) -∗ WP c (k ⟨⟩) Q)
        -∗ WP c (seqL (rsSend partM (Memref.isWhole_whole _) rsM (Memref.isWhole_whole _) cc0_scratch4 cc0_scratch5 c) js >>= k) Q) := by
  have h := wp_loop c (rsSend (F := F) partM (Memref.isWhole_whole _) rsM (Memref.isWhole_whole _) cc0_scratch4 cc0_scratch5 c)
    (fun j => iprop(partPts P c (peer c j) ∗ (∃ f, rsPts (peer c j) c f) ∗ dutyTok ER (cell c (kRss j)) 0 c ∗ dutyTok ER (cell (peer c j) (kRsr c)) 0 c))
    (fun j => cred (tallyAt (cell c (kRss j)) () N)) (fun l => run P K c (oAg c js + oRs c l))
    (fun j l k Q => by
      iintro ⟨⟨Hp, ⟨%fd, Hd⟩, Ht₁, Ht₂⟩, HT⟩ Hk
      iapply (step_send P K c j (.inl (.inl j)) (.inl (.inr c)) _ (oAg c js + oRs c l) (peel_oRs c j l _)
        (Finset.mem_singleton_self c) (by rw [dutiesK_rsr _ _ (peer_ne c j).symm]; exact Finset.mem_singleton_self c)
        _ _ (congrArg SemLoc.dma (rss_sem j)) (congrArg SemLoc.dma ((sem32_congr _ (k0_off1_eq c) _ (inb32 c)).trans (rsr_sem c)))
        _ (Fin.ext (devB_eq j c)) (partV (peer c j)) (rsV c) _ _ (slice_rows (off3_eq j c) _ (inbRows _) _) (slice_slot (k0_off2_eq c) _ (inbSlot c) _)
        (credit_rs c) fullShare (P c) fd (Entails.refl _)
        (rsPts_congr (peer c j) c _ _ fun i hi => landed_rs P (peer c j) c fd i hi) _ rfl k Q) $$ [Hp Hd Ht₁ Ht₂ HT]
      · isplitr [HT]
        · isplitl [Hp]; · unfold partPts; iexact Hp
          isplitl [Hd]; · unfold rsPts; iexact Hd
          isplitl [Ht₁] <;> iassumption
        iexact HT
      iexact Hk) k Q
  rw [show oAg c js + oRs c [] = oAg c js from add_zero _] at h
  exact h

/-- The second exchange's copies. -/
theorem loop_agSend (c : Dev nD) (k : PUnit → BodyProg F) (Q : PUnit → sProp 𝕄) :
    iprop((bigSep Finset.univ fun j : Fin 31 => iprop(bcPts P c (j.castLE (by decide)) ∗ (∃ f, agPts (peer c j) c f) ∗ dutyTok ER (cell c (kAgs j)) 0 c ∗ dutyTok ER (cell (peer c j) (kAgr c)) 0 c))
        ∗ run P K c (oAg c js))
      ⊢ iprop(((bigSep Finset.univ fun j => cred (tallyAt (cell c (kAgs j)) () N)) ∗ run P K c 0 -∗ WP c (k ⟨⟩) Q)
        -∗ WP c (seqL (agSend agM (Memref.isWhole_whole _) bcM (Memref.isWhole_whole _) cc0_scratch6 cc0_scratch7 c) js >>= k) Q) :=
  wp_loop c (agSend (F := F) agM (Memref.isWhole_whole _) bcM (Memref.isWhole_whole _) cc0_scratch6 cc0_scratch7 c)
    (fun j => iprop(bcPts P c (j.castLE (by decide)) ∗ (∃ f, agPts (peer c j) c f) ∗ dutyTok ER (cell c (kAgs j)) 0 c ∗ dutyTok ER (cell (peer c j) (kAgr c)) 0 c))
    (fun j => cred (tallyAt (cell c (kAgs j)) () N)) (fun l => run P K c (oAg c l))
    (fun j l k Q => by
      iintro ⟨⟨Hp, ⟨%fd, Hd⟩, Ht₁, Ht₂⟩, HT⟩ Hk
      iapply (step_send P K c j (.inr (.inl j)) (.inr (.inr c)) _ (oAg c l) (peel_oAg c j l)
        (Finset.mem_singleton_self c) (by rw [dutiesK_agr _ _ (peer_ne c j).symm]; exact Finset.mem_singleton_self c)
        _ _ (congrArg SemLoc.dma (ags_sem j)) (congrArg SemLoc.dma ((sem32_congr _ (k0_off1_eq c) _ (inb32 c)).trans (agr_sem c)))
        _ (Fin.ext (devC_eq j c)) bcM (agV c) _ _ rfl (slice_slot (k0_off2_eq c) _ (inbSlot c) _)
        (credit_ag c) (ShareLeaves.leaf 5 fullShare (j.castLE (by decide))) (BC P c) fd (Entails.refl _)
        (agPts_congr (peer c j) c _ _ fun i hi => landed_ag P c fd i hi) _ rfl k Q) $$ [Hp Hd Ht₁ Ht₂ HT]
      · isplitr [HT]
        · isplitl [Hp]; · unfold bcPts; iexact Hp
          isplitl [Hd]; · unfold agPts; iexact Hd
          isplitl [Ht₁] <;> iassumption
        iexact HT
      iexact Hk) k Q

/-- The waits for the first exchange's rows. -/
theorem loop_rsWait (c : Dev nD) (k : PUnit → BodyProg F) (Q : PUnit → sProp 𝕄) :
    iprop((bigSep Finset.univ fun j => iprop(cred (tallyAt (cell c (kRsr (peer c j))) () N) ∗ atPos ER (cell c (kRsr (peer c j))) 0 ∅ 0)) ∗ run P K c (oAg c js))
      ⊢ iprop(((bigSep Finset.univ fun j => iprop(rsPts c (peer c j) (RS P c) ∗ atPos ER (cell c (kRsr (peer c j))) 1 ∅ 0)) ∗ run P K c (oAg c js) -∗ WP c (k ⟨⟩) Q)
        -∗ WP c (seqL (rsWait partM (Memref.isWhole_whole _) rsM (Memref.isWhole_whole _) cc0_scratch5 c) js >>= k) Q) :=
  wp_loop c (rsWait (F := F) partM (Memref.isWhole_whole _) rsM (Memref.isWhole_whole _) cc0_scratch5 c)
    (fun j => iprop(cred (tallyAt (cell c (kRsr (peer c j))) () N) ∗ atPos ER (cell c (kRsr (peer c j))) 0 ∅ 0))
    (fun j => iprop(rsPts c (peer c j) (RS P c) ∗ atPos ER (cell c (kRsr (peer c j))) 1 ∅ 0)) (fun _ => run P K c (oAg c js))
    (fun j l k Q => by
      have h := step_wait P K c (.inl (.inr (peer c j))) (oAg c js) 2 (le_refl 2) (above_oAg c js (by decide)) (expect_rsr P c _ (peer_ne c j))
        _ (congrArg SemLoc.dma ((sem32_congr _ (off6_eq j c) _ (inb32 (peer c j))).trans (rsr_sem (peer c j)))) _ _
        (rsWait (F := F) partM (Memref.isWhole_whole _) rsM (Memref.isWhole_whole _) cc0_scratch5 c j) rfl rfl k Q
      rw [dutiesK_rsr c _ (peer_ne c j), bigSep_singleton] at h
      exact h) k Q

/-- The waits for the second exchange's rows. -/
theorem loop_agWait (c : Dev nD) (k : PUnit → BodyProg F) (Q : PUnit → sProp 𝕄) :
    iprop((bigSep Finset.univ fun j => iprop(cred (tallyAt (cell c (kAgr (peer c j))) () N) ∗ atPos ER (cell c (kAgr (peer c j))) 0 ∅ 0)) ∗ run P K c 0)
      ⊢ iprop(((bigSep Finset.univ fun j => iprop(agPts c (peer c j) (AG P) ∗ atPos ER (cell c (kAgr (peer c j))) 1 ∅ 0)) ∗ run P K c 0 -∗ WP c (k ⟨⟩) Q)
        -∗ WP c (seqL (agWait agM (Memref.isWhole_whole _) bcM (Memref.isWhole_whole _) cc0_scratch7 c) js >>= k) Q) :=
  wp_loop c (agWait (F := F) agM (Memref.isWhole_whole _) bcM (Memref.isWhole_whole _) cc0_scratch7 c)
    (fun j => iprop(cred (tallyAt (cell c (kAgr (peer c j))) () N) ∗ atPos ER (cell c (kAgr (peer c j))) 0 ∅ 0))
    (fun j => iprop(agPts c (peer c j) (AG P) ∗ atPos ER (cell c (kAgr (peer c j))) 1 ∅ 0)) (fun _ => run P K c 0)
    (fun j l k Q => by
      have h := step_wait P K c (.inr (.inr (peer c j))) 0 3 (le_refl 3) (above_zero 3) (expect_agr P c _ (peer_ne c j))
        _ (congrArg SemLoc.dma ((sem32_congr _ (off6_eq j c) _ (inb32 (peer c j))).trans (agr_sem (peer c j)))) _ _
        (agWait (F := F) agM (Memref.isWhole_whole _) bcM (Memref.isWhole_whole _) cc0_scratch7 c j) rfl rfl k Q
      rw [dutiesK_agr c _ (peer_ne c j), bigSep_singleton] at h
      exact h) k Q

/-- The last waits: every copy has left, so what was sent is the device's own again. -/
theorem loop_drain (c : Dev nD) (k : PUnit → BodyProg F) (Q : PUnit → sProp 𝕄) :
    iprop((bigSep Finset.univ fun j => iprop((cred (tallyAt (cell c (kRss j)) () N) ∗ atPos ER (cell c (kRss j)) 0 ∅ 0)
          ∗ (cred (tallyAt (cell c (kAgs j)) () N) ∗ atPos ER (cell c (kAgs j)) 0 ∅ 0))) ∗ run P K c 0)
      ⊢ iprop(((bigSep Finset.univ fun j : Fin 31 => iprop((partPts P c (peer c j) ∗ atPos ER (cell c (kRss j)) 1 ∅ 0)
          ∗ (bcPts P c (j.castLE (by decide)) ∗ atPos ER (cell c (kAgs j)) 1 ∅ 0))) ∗ run P K c 0 -∗ WP c (k ⟨⟩) Q)
        -∗ WP c (seqL (drain partM (Memref.isWhole_whole _) rsM (Memref.isWhole_whole _) agM (Memref.isWhole_whole _) bcM (Memref.isWhole_whole _) cc0_scratch4 cc0_scratch6 c) js >>= k) Q) :=
  wp_loop c (drain (F := F) partM (Memref.isWhole_whole _) rsM (Memref.isWhole_whole _) agM (Memref.isWhole_whole _) bcM (Memref.isWhole_whole _) cc0_scratch4 cc0_scratch6 c)
    (fun j => iprop((cred (tallyAt (cell c (kRss j)) () N) ∗ atPos ER (cell c (kRss j)) 0 ∅ 0)
          ∗ (cred (tallyAt (cell c (kAgs j)) () N) ∗ atPos ER (cell c (kAgs j)) 0 ∅ 0)))
    (fun j => iprop((partPts P c (peer c j) ∗ atPos ER (cell c (kRss j)) 1 ∅ 0)
          ∗ (bcPts P c (j.castLE (by decide)) ∗ atPos ER (cell c (kAgs j)) 1 ∅ 0))) (fun _ => run P K c 0)
    (fun j l k Q => by
      have h₁ (k) := step_wait P K c (.inl (.inl j)) 0 3 (Nat.zero_le 3) (above_zero 3) (expect_rss P c j)
        _ (congrArg SemLoc.dma (rss_sem j)) _ _
        (rsDrain (F := F) partM (Memref.isWhole_whole _) rsM (Memref.isWhole_whole _) cc0_scratch4 c j) rfl rfl k Q
      have h₂ := step_wait P K c (.inr (.inl j)) 0 3 (Nat.zero_le 3) (above_zero 3) (expect_ags P c j)
        _ (congrArg SemLoc.dma (ags_sem j)) _ _
        (agDrain (F := F) agM (Memref.isWhole_whole _) bcM (Memref.isWhole_whole _) cc0_scratch6 c j) rfl rfl k Q
      simp only [show dutiesK c (kRss j) = {c} from rfl, show dutiesK c (kAgs j) = {c} from rfl, bigSep_singleton] at h₁ h₂
      rw [drain, bind_assoc]
      iintro ⟨⟨H₁, H₂⟩, HT⟩ Hk
      iapply (h₁ fun _ => agDrain (F := F) agM (Memref.isWhole_whole _) bcM (Memref.isWhole_whole _) cc0_scratch6 c j >>= k) $$ [H₁ HT]
      · isplitl [H₁] <;> iassumption
      iintro ⟨H₁, HT⟩
      iapply h₂ $$ [H₂ HT]
      · isplitl [H₂] <;> iassumption
      iintro ⟨H₂, HT⟩
      iapply Hk
      isplitr [HT]
      · isplitl [H₁]
        · iexact H₁
        iexact H₂
      iexact HT) k Q

end Cert.KernelIdealProof

end
-- ==== Proof.BuffersIdeal.lean ====
/-
  The scratch buffers by slots and row blocks, the semaphores by kinds, and the steps in which a device works on its own slot.
-/
module

public import proofs.«01_k».proof.Proof.LoopsIdeal

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → S512x1024.Idx → Elt F .bf16) (K : Dev nD × Kd → ℕ)

/-- Over all devices is over a device and its peers. -/
theorem peers_sep (c : Dev nD) (Φ : Dev nD → sProp 𝕄) :
    bigSep Finset.univ Φ = iprop(Φ c ∗ bigSep Finset.univ fun j : Fin 31 => Φ (peer c j)) := by
  refine (bigSep_erase (Finset.mem_univ c)).trans ?_
  rw [← peers_eq c, bigSep_map]; rfl

/-- Over the 32 shares of a sixth level is over the peers and a last one. -/
theorem shares_sep (Φ : Fin (2 ^ 5) → sProp 𝕄) :
    bigSep Finset.univ Φ = iprop(Φ ⟨31, by decide⟩ ∗ bigSep Finset.univ fun j : Fin 31 => Φ (j.castLE (by decide))) := by
  refine (bigSep_erase (Finset.mem_univ (⟨31, by decide⟩ : Fin (2 ^ 5)))).trans ?_
  rw [show (Finset.univ : Finset (Fin (2 ^ 5))).erase ⟨31, by decide⟩ = (Finset.univ : Finset (Fin 31)).map (Fin.castLEEmb (by decide)) from by decide, bigSep_map]; rfl

/-- Over all kinds is over the entry semaphore and each of the four families. -/
theorem kinds_sep (Φ : Kd → sProp 𝕄) :
    bigSep Finset.univ Φ = iprop(Φ kBar ∗ ((bigSep Finset.univ fun j => Φ (kRss j)) ∗ bigSep Finset.univ fun s => Φ (kRsr s))
      ∗ ((bigSep Finset.univ fun j => Φ (kAgs j)) ∗ bigSep Finset.univ fun s => Φ (kAgr s))) := by
  rw [bigSep_univ_sum, bigSep_univ_of_subsingleton (), bigSep_univ_sum, bigSep_univ_sum, bigSep_univ_sum]; rfl

/-! ## Buffers by parts -/

theorem split_rs (c : Dev nD) (f : S32x16x1024.Idx → Elt F .bf16) :
    ((((c : Thread nD τ).loc cc0_scratch1) ↦{fullShare} f) : sProp 𝕄) = iprop(rsPts c c f ∗ bigSep Finset.univ fun j => rsPts c (peer c j) f) := by
  rw [← peers_sep c (fun s => rsPts c s f)]
  refine Eq.trans ?_ (bigSep_congr fun s _ => congrArg (fun S => ((((c : Thread nD τ).loc cc0_scratch1) ↦[S]{fullShare} f) : sProp 𝕄)) (rsV_set s).symm)
  rw [← pointsTo_biUnion _ _ (fun s _ t _ h => slots_disjoint s t h), slots_cover]
theorem split_ag (c : Dev nD) (f : S32x16x1024.Idx → Elt F .bf16) :
    ((((c : Thread nD τ).loc cc0_scratch2) ↦{fullShare} f) : sProp 𝕄) = iprop(agPts c c f ∗ bigSep Finset.univ fun j => agPts c (peer c j) f) := by
  rw [← peers_sep c (fun s => agPts c s f)]
  refine Eq.trans ?_ (bigSep_congr fun s _ => congrArg (fun S => ((((c : Thread nD τ).loc cc0_scratch2) ↦[S]{fullShare} f) : sProp 𝕄)) (agV_set s).symm)
  rw [← pointsTo_biUnion _ _ (fun s _ t _ h => slots_disjoint s t h), slots_cover]
theorem split_part (c : Dev nD) :
    ((((c : Thread nD τ).loc cc0_scratch0) ↦{fullShare} P c) : sProp 𝕄) = iprop(partPts P c c ∗ bigSep Finset.univ fun j => partPts P c (peer c j)) := by
  rw [← peers_sep c (fun s => partPts P c s)]
  refine Eq.trans ?_ (bigSep_congr fun s _ => congrArg (fun S => ((((c : Thread nD τ).loc cc0_scratch0) ↦[S]{fullShare} P c) : sProp 𝕄)) (partV_set s).symm)
  rw [← pointsTo_biUnion _ _ (fun s _ t _ h => rows_disjoint s t h), rows_cover]
theorem split_bc (c : Dev nD) :
    ((((c : Thread nD τ).loc cc0_scratch3) ↦{fullShare} BC P c) : sProp 𝕄) = iprop(bcPts P c ⟨31, by decide⟩ ∗ bigSep Finset.univ fun j : Fin 31 => bcPts P c (j.castLE (by decide))) := by
  rw [← shares_sep (fun i => bcPts P c i)]
  refine Eq.trans ?_ (bigSep_congr fun i _ => congrArg (fun S => ((((c : Thread nD τ).loc cc0_scratch3) ↦[S]{ShareLeaves.leaf 5 fullShare i} BC P c) : sProp 𝕄)) bcM_set.symm)
  exact ShareLeaves.pointsTo_leaves _ _ 5 fullShare

/-- Under a persistent hypothesis a family becomes another member by member. -/
theorem bigSep_under {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- Every semaphore of the device, once all its rounds are over, closes at zero. -/
theorem close_all (c : Dev nD) :
    iprop(records P K ∗ bigSep Finset.univ fun k : Kd => iprop(∃ R, ⌜∀ r, R ≤ r → (Rd (F := F) P).duties (cell c k) r = ∅⌝ ∗ atPos ER (cell c k) R ∅ 0))
      ⊢ |={Set.univ}=> bigSep Finset.univ fun k : Kd => (semVal (cell c k) 0 : sProp 𝕄) :=
  (bigSep_under fun k => by
    iintro ⟨#Hr, ⟨%R, %hR, Ha⟩⟩
    iapply (Rounds.cell_close ER (Rd P) (Set.mem_univ (K (c, k))) (fun h => h) (R := R) hR)
    isplitr; · iapply (inv_at P K c k); iexact Hr
    iexact Ha).trans (bigSep_fupd _ _)

/-- A semaphore past its round is over; -/
theorem over_one (c : Dev nD) (k : Kd) : (atPos ER (cell c k) 1 ∅ 0 : sProp 𝕄) ⊢ iprop(∃ R, ⌜∀ r, R ≤ r → (Rd (F := F) P).duties (cell c k) r = ∅⌝ ∗ atPos ER (cell c k) R ∅ 0) := by
  iintro H
  iexists 1
  isplitr; · ipureintro; exact duties_later P _
  iexact H
/-- so is one on which nothing is due. -/
theorem over_zero (c : Dev nD) (k : Kd) (h : dutiesK c k = ∅) :
    (atPos ER (cell c k) 0 ∅ 0 : sProp 𝕄) ⊢ iprop(∃ R, ⌜∀ r, R ≤ r → (Rd (F := F) P).duties (cell c k) r = ∅⌝ ∗ atPos ER (cell c k) R ∅ 0) := by
  iintro H
  iexists 0
  isplitr
  · ipureintro; intro r _
    cases r with
    | zero => exact (duties_cell P c k).trans h
    | succ r => exact duties_later P _ _ (Nat.succ_le_succ (Nat.zero_le r))
  iexact H

/-! ## A device's own slot -/

theorem own_load (c : Dev nD) : partM.view.setOn (rowsR c).toLoadRect.set ⊆ (partV c).view.set := by
  rw [show (partV c).view.set = partM.view.setOn (rowsR c).set from View.set_slice _ _]
theorem own_slot_rs (c : Dev nD) : rsM.view.setOn (slotR c).toLoadRect.set ⊆ (rsV c).view.set := by
  rw [rsV_set]; exact ((View.set_slice (v := rsM.view) (slotR c)).symm.trans (View.set_slice_whole cc0_scratch1 (slotR c))).subset
theorem own_slot_ag (c : Dev nD) : agM.view.setOn (slotR c).toLoadRect.set ⊆ (agV c).view.set := by
  rw [agV_set]; exact ((View.set_slice (v := agM.view) (slotR c)).symm.trans (View.set_slice_whole cc0_scratch2 (slotR c))).subset
theorem own_store_rs (c : Dev nD) : (rsM.access (slotR c) : View sig .tc _ _ _).setOn Finset.univ ⊆ (rsV c).view.set := by
  rw [rsV_set, View.setOn_univ]; exact (View.set_slice_whole cc0_scratch1 (slotR c)).subset
theorem own_store_ag (c : Dev nD) : (agM.access (slotR c) : View sig .tc _ _ _).setOn Finset.univ ⊆ (agV c).view.set := by
  rw [agV_set, View.setOn_univ]; exact (View.set_slice_whole cc0_scratch2 (slotR c)).subset

/-- A device copies its own row block into its own slot of the first receive buffer. -/
theorem wp_ownRs (c : Dev nD) {o : Fin 2 → ℕ} (h : o = ![16 * c.val, 0]) (hi : ∀ a, o a + S16x1024.size a ≤ S512x1024.size a)
    {o' : Fin 3 → ℕ} (h' : o' = ![c.val, 0, 0]) (hi' : ∀ a, o' a + S1x16x1024.size a ≤ S32x16x1024.size a)
    {hl : partM.view.LoadsAt (Rect.unit (s := S512x1024) o S16x1024.size hi).toLoadRect}
    {hl' : rsM.view.LoadsAt (Rect.unit (s := S32x16x1024) o' S1x16x1024.size hi').toLoadRect}
    {hx : (rsM.access (Rect.unit (s := S32x16x1024) o' S1x16x1024.size hi') : View sig .tc _ _ _).Stores Finset.univ} {hm}
    (k : PUnit → BodyProg F) (Q : PUnit → sProp 𝕄) :
    iprop(partPts P c c ∗ ∃ f, rsPts c c f)
      ⊢ iprop((partPts P c c ∗ rsPts c c (RS P c) -∗ WP c (k ⟨⟩) Q)
        -∗ WP c (.op (.load partM (Rect.unit (s := S512x1024) o S16x1024.size hi).toLoadRect hl) fun v =>
            .op (.load rsM (Rect.unit (s := S32x16x1024) o' S1x16x1024.size hi').toLoadRect hl') fun _ =>
            .op (.store rsM (Rect.unit (s := S32x16x1024) o' S1x16x1024.size hi') (k0_pay20 v) Finset.univ hx hm) k) Q) := by
  subst h; subst h'
  have he (f) := rsPts_congr c c _ _ fun i hi => own_rs P c f i (by rw [rsV_set] at hi; exact hi)
  unfold partPts rsPts; unfold rsPts at he
  iintro ⟨Hp, ⟨%f, Hr⟩⟩ Hk
  iapply (wp_load 𝒱₀ (c : Thread nD τ) none Set.univ (m := partM) (own_load c)) $$ Hp; iintro Hp
  iapply (wp_load 𝒱₀ (c : Thread nD τ) none Set.univ (m := rsM) (own_slot_rs c)) $$ Hr; iintro Hr
  iapply (wp_store 𝒱₀ (c : Thread nD τ) none Set.univ (m := rsM) (r := slotR c) (Mk := Finset.univ) (own_store_rs c)) $$ Hr; iintro Hr
  iapply Hk
  isplitl [Hp]; · iexact Hp
  iapply (he f); iexact Hr

/-- A device copies its rows of the sum into its own slot of the second receive buffer. -/
theorem wp_ownAg (c : Dev nD) {o' : Fin 3 → ℕ} (h' : o' = ![c.val, 0, 0]) (hi' : ∀ a, o' a + S1x16x1024.size a ≤ S32x16x1024.size a)
    {hl' : agM.view.LoadsAt (Rect.unit (s := S32x16x1024) o' S1x16x1024.size hi').toLoadRect}
    {hx : (agM.access (Rect.unit (s := S32x16x1024) o' S1x16x1024.size hi') : View sig .tc _ _ _).Stores Finset.univ} {hm}
    (k : PUnit → BodyProg F) (Q : PUnit → sProp 𝕄) :
    iprop(∃ f, agPts c c f)
      ⊢ iprop((agPts c c (AG P) -∗ WP c (k ⟨⟩) Q)
        -∗ WP c (.op (.load agM (Rect.unit (s := S32x16x1024) o' S1x16x1024.size hi').toLoadRect hl') fun _ =>
            .op (.store agM (Rect.unit (s := S32x16x1024) o' S1x16x1024.size hi') (k0_pay22 (BC P c)) Finset.univ hx hm) k) Q) := by
  subst h'
  have he (f) := agPts_congr c c _ _ fun i hi => own_ag P c f i (by rw [agV_set] at hi; exact hi)
  unfold agPts; unfold agPts at he
  iintro ⟨%f, Hr⟩ Hk
  iapply (wp_load 𝒱₀ (c : Thread nD τ) none Set.univ (m := agM) (own_slot_ag c)) $$ Hr; iintro Hr
  iapply (wp_store 𝒱₀ (c : Thread nD τ) none Set.univ (m := agM) (r := slotR c) (Mk := Finset.univ) (own_store_ag c)) $$ Hr; iintro Hr
  iapply Hk
  iapply (he f); iexact Hr

end Cert.KernelIdealProof

end
-- ==== Proof.BodyIdeal.lean ====
/-
  The kernel body on one device, run step by step.
-/
module

public import proofs.«01_k».proof.Proof.BuffersIdeal

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → S512x1024.Idx → Elt F .bf16) (K : Dev nD × Kd → ℕ)

/-- The right to pay each of the duties that device `c` pays. -/
def payToks (c : Dev nD) : sProp 𝕄 :=
  iprop((bigSep Finset.univ fun j => dutyTok ER (cell (peer c j) kBar) 0 c)
    ∗ ((bigSep Finset.univ fun j => dutyTok ER (cell c (kRss j)) 0 c) ∗ bigSep Finset.univ fun j => dutyTok ER (cell (peer c j) (kRsr c)) 0 c)
    ∗ ((bigSep Finset.univ fun j => dutyTok ER (cell c (kAgs j)) 0 c) ∗ bigSep Finset.univ fun j => dutyTok ER (cell (peer c j) (kAgr c)) 0 c))

/-- What device `c` may wait for, from the start: its peers' entering and the two exchanges' arrivals. -/
def startCreds (c : Dev nD) : sProp 𝕄 :=
  iprop(cred (tallyAt (cell c kBar) () 31) ∗ (bigSep Finset.univ fun j => cred (tallyAt (cell c (kRsr (peer c j))) () N))
    ∗ bigSep Finset.univ fun j => cred (tallyAt (cell c (kAgr (peer c j))) () N))

/-- Device `c`'s part of the protocol's state before its body. -/
def ghost (c : Dev nD) : sProp 𝕄 :=
  iprop(payToks c ∗ (bigSep Finset.univ fun k : Kd => atPos ER (cell c k) 0 ∅ 0) ∗ startCreds c)

/-- The five staged operands. -/
def inputs (c : Dev nD) (X : S1x512x1024.Idx → Elt F .f32) (Wq Wo Wk Wv : S1024x1024.Idx → Elt F .f32) : sProp 𝕄 :=
  iprop((((c : Thread nD τ).loc cc0_stg0_0) ↦{fullShare} X) ∗ (((c : Thread nD τ).loc cc0_stg1_0) ↦{fullShare} Wq)
    ∗ (((c : Thread nD τ).loc cc0_stg2_0) ↦{fullShare} Wo) ∗ (((c : Thread nD τ).loc cc0_stg3_0) ↦{fullShare} Wk)
    ∗ (((c : Thread nD τ).loc cc0_stg4_0) ↦{fullShare} Wv))

/-- The four scratch buffers, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

theorem hz2 : (![0, 0] : Fin 2 → ℕ) = fun _ => 0 := funext fun a => by fin_cases a <;> rfl
theorem hz3 : (![0, 0, 0] : Fin 3 → ℕ) = fun _ => 0 := funext fun a => by fin_cases a <;> rfl

/-! Reading and writing whole buffers. -/

theorem read_x (f : S1x512x1024.Idx → Elt F .f32) :
    (Memref.whole cc0_stg0_0 : Memref sig .tc .vmem S1x512x1024 .f32).view.readAt (Elt F) (Rect.unit (s := S1x512x1024) ![0, 0, 0] S1x512x1024.size inb_S1x512x1024_S1x512x1024_0_0_0).toLoadRect f = f :=
  Memref.readAt_unit_zero (Elt F) cc0_stg0_0 hz3 _ f
theorem read_q (f : S1024x1024.Idx → Elt F .f32) :
    (Memref.whole cc0_stg1_0 : Memref sig .tc .vmem S1024x1024 .f32).view.readAt (Elt F) (Rect.unit (s := S1024x1024) ![0, 0] S1024x1024.size inb_S1024x1024_S1024x1024_0_0).toLoadRect f = f :=
  Memref.readAt_unit_zero (Elt F) cc0_stg1_0 hz2 _ f
theorem read_o (f : S1024x1024.Idx → Elt F .f32) :
    (Memref.whole cc0_stg2_0 : Memref sig .tc .vmem S1024x1024 .f32).view.readAt (Elt F) (Rect.unit (s := S1024x1024) ![0, 0] S1024x1024.size inb_S1024x1024_S1024x1024_0_0).toLoadRect f = f :=
  Memref.readAt_unit_zero (Elt F) cc0_stg2_0 hz2 _ f
theorem read_k (f : S1024x1024.Idx → Elt F .f32) :
    (Memref.whole cc0_stg3_0 : Memref sig .tc .vmem S1024x1024 .f32).view.readAt (Elt F) (Rect.unit (s := S1024x1024) ![0, 0] S1024x1024.size inb_S1024x1024_S1024x1024_0_0).toLoadRect f = f :=
  Memref.readAt_unit_zero (Elt F) cc0_stg3_0 hz2 _ f
theorem read_v (f : S1024x1024.Idx → Elt F .f32) :
    (Memref.whole cc0_stg4_0 : Memref sig .tc .vmem S1024x1024 .f32).view.readAt (Elt F) (Rect.unit (s := S1024x1024) ![0, 0] S1024x1024.size inb_S1024x1024_S1024x1024_0_0).toLoadRect f = f :=
  Memref.readAt_unit_zero (Elt F) cc0_stg4_0 hz2 _ f
theorem read_rs (f : S32x16x1024.Idx → Elt F .bf16) :
    (Memref.whole cc0_scratch1 : Memref sig .tc .vmem S32x16x1024 .bf16).view.readAt (Elt F) (Rect.unit (s := S32x16x1024) ![0, 0, 0] S32x16x1024.size inb_S32x16x1024_S32x16x1024_0_0_0).toLoadRect f = f :=
  Memref.readAt_unit_zero (Elt F) cc0_scratch1 hz3 _ f
theorem read_ag (f : S32x16x1024.Idx → Elt F .bf16) :
    (Memref.whole cc0_scratch2 : Memref sig .tc .vmem S32x16x1024 .bf16).view.readAt (Elt F) (Rect.unit (s := S32x16x1024) ![0, 0, 0] S32x16x1024.size inb_S32x16x1024_S32x16x1024_0_0_0).toLoadRect f = f :=
  Memref.readAt_unit_zero (Elt F) cc0_scratch2 hz3 _ f
theorem read_bc (f : S16x1024.Idx → Elt F .bf16) :
    (Memref.whole cc0_scratch3 : Memref sig .tc .vmem S16x1024 .bf16).view.readAt (Elt F) (Rect.unit (s := S16x1024) ![0, 0] S16x1024.size inb_S16x1024_S16x1024_0_0).toLoadRect f = f :=
  Memref.readAt_unit_zero (Elt F) cc0_scratch3 hz2 _ f
theorem write_part (f w : S512x1024.Idx → Elt F .bf16) :
    ((Memref.whole cc0_scratch0 : Memref sig .tc .vmem S512x1024 .bf16).access (Rect.unit (s := S512x1024) ![0, 0] S512x1024.size inb_S512x1024_S512x1024_0_0) : View sig .tc _ _ _).write (Elt F) f w Finset.univ = w :=
  Memref.write_access_unit_zero_univ (Elt F) cc0_scratch0 hz2 _ f w
theorem write_bc (f w : S16x1024.Idx → Elt F .bf16) :
    ((Memref.whole cc0_scratch3 : Memref sig .tc .vmem S16x1024 .bf16).access (Rect.unit (s := S16x1024) ![0, 0] S16x1024.size inb_S16x1024_S16x1024_0_0) : View sig .tc _ _ _).write (Elt F) f w Finset.univ = w :=
  Memref.write_access_unit_zero_univ (Elt F) cc0_scratch3 hz2 _ f w
theorem write_out (f w : S1x512x1024.Idx → Elt F .f32) :
    ((Memref.whole cc0_stg5_0 : Memref sig .tc .vmem S1x512x1024 .f32).access (Rect.unit (s := S1x512x1024) ![0, 0, 0] S1x512x1024.size inb_S1x512x1024_S1x512x1024_0_0_0) : View sig .tc _ _ _).write (Elt F) f w Finset.univ = w :=
  Memref.write_access_unit_zero_univ (Elt F) cc0_stg5_0 hz3 _ f w

/-- The body as run on the staging buffers. -/
abbrev theBody : BodyProg F :=
  bodyS (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    partM (Memref.isWhole_whole _) rsM (Memref.isWhole_whole _) agM (Memref.isWhole_whole _) bcM (Memref.isWhole_whole _) cc0_scratch4 cc0_scratch5 cc0_scratch6 cc0_scratch7

theorem rs_any (c : Dev nD) (g : S32x16x1024.Idx → Elt F .bf16) :
    (bigSep Finset.univ fun j => rsPts c (peer c j) g : sProp 𝕄) ⊢ bigSep Finset.univ fun j => iprop(∃ f, rsPts c (peer c j) f) :=
  bigSep_mono fun j _ => (show iprop(rsPts c (peer c j) g) ⊢ (iprop(∃ f, rsPts c (peer c j) f) : sProp 𝕄) from by iintro H; iexists g; iexact H)
theorem ag_any (c : Dev nD) (g : S32x16x1024.Idx → Elt F .bf16) :
    (bigSep Finset.univ fun j => agPts c (peer c j) g : sProp 𝕄) ⊢ bigSep Finset.univ fun j => iprop(∃ f, agPts c (peer c j) f) :=
  bigSep_mono fun j _ => (show iprop(agPts c (peer c j) g) ⊢ (iprop(∃ f, agPts c (peer c j) f) : sProp 𝕄) from by iintro H; iexists g; iexact H)

/-- Every kind's position at the end of the body, gathered. -/
theorem gather (c : Dev nD) :
    iprop(atPos ER (cell c kBar) 1 ∅ 0 ∗ ((bigSep Finset.univ fun j => atPos ER (cell c (kRss j)) 1 ∅ 0)
        ∗ (atPos ER (cell c (kRsr c)) 0 ∅ 0 ∗ bigSep Finset.univ fun j => atPos ER (cell c (kRsr (peer c j))) 1 ∅ 0))
      ∗ ((bigSep Finset.univ fun j => atPos ER (cell c (kAgs j)) 1 ∅ 0)
        ∗ (atPos ER (cell c (kAgr c)) 0 ∅ 0 ∗ bigSep Finset.univ fun j => atPos ER (cell c (kAgr (peer c j))) 1 ∅ 0)))
      ⊢ (bigSep Finset.univ fun k : Kd => iprop(∃ R, ⌜∀ r, R ≤ r → (Rd (F := F) P).duties (cell c k) r = ∅⌝ ∗ atPos ER (cell c k) R ∅ 0) : sProp 𝕄) := by
  rw [kinds_sep, peers_sep c, peers_sep c]
  exact sep_mono (over_one P c _) (sep_mono (sep_mono (bigSep_mono fun j _ => over_one P c _)
      (sep_mono (over_zero P c _ (if_pos rfl)) (bigSep_mono fun j _ => over_one P c _)))
    (sep_mono (bigSep_mono fun j _ => over_one P c _) (sep_mono (over_zero P c _ (if_pos rfl)) (bigSep_mono fun j _ => over_one P c _))))

set_option maxHeartbeats 4000000 in
/-- The body from a device's start: it ends with the operands as they were, the result in the output's staging buffer, nothing
    owed and every semaphore at zero. -/
theorem wp_body (c : Dev nD) (X : S1x512x1024.Idx → Elt F .f32) (Wq Wo Wk Wv : S1024x1024.Idx → Elt F .f32)
    (hP : P c = partVal X Wq Wk Wv Wo) (f5 : S1x512x1024.Idx → Elt F .f32) (Q : PUnit → sProp 𝕄) :
    iprop(ghost c ∗ run P K c (O₀ c) ∗ inputs c X Wq Wo Wk Wv ∗ (((c : Thread nD τ).loc cc0_stg5_0) ↦{fullShare} f5) ∗ scratch c)
      ⊢ iprop((((bigSep Finset.univ fun k : Kd => semVal (cell c k) 0) ∗ run P K c 0 ∗ inputs c X Wq Wo Wk Wv
          ∗ (((c : Thread nD τ).loc cc0_stg5_0) ↦{fullShare} OUT P) ∗ scratch c) -∗ Q ⟨⟩) -∗ WP c theBody Q) := by
  unfold theBody bodyS
  simp -proj only [Prog.lift, Prog.bind_op, Prog.bind_ret, Prog.pure_eq_ret, wp_deviceId]
  unfold ghost payToks startCreds inputs scratch
  rw [kinds_sep, peers_sep c, peers_sep c]
  iintro ⟨⟨⟨HtB, ⟨HtRs, HtRr⟩, ⟨HtAs, HtAr⟩⟩, ⟨HaB, ⟨HaRs, HaRc, HaRr⟩, ⟨HaAs, HaAc, HaAr⟩⟩, ⟨HcB, HcR, HcA⟩⟩, HT, ⟨Hx, Hq, Ho, Hk, Hv⟩, Hout,
    ⟨⟨%s0, Hs0⟩, ⟨%s1, Hs1⟩, ⟨%s2, Hs2⟩, ⟨%s3, Hs3⟩⟩⟩ Hend
  -- entering: the slots of the receive buffers go to the peers
  ihave Hs1 := (Entails.of_eq (split_rs (F := F) c s1)) $$ Hs1
  ihave Hs2 := (Entails.of_eq (split_ag (F := F) c s2)) $$ Hs2
  icases Hs1 with ⟨HrsO, HrsP⟩
  icases Hs2 with ⟨HagO, HagP⟩
  iapply (loop_barSig P K c) $$ [HtB HrsP HagP HT]
  · isplitr [HT]
    · rw [bigSep_sep']
      isplitl [HtB]; · iexact HtB
      unfold enterPay
      rw [bigSep_sep']
      isplitl [HrsP]
      · iapply (rs_any c s1)
        iexact HrsP
      · iapply (ag_any c s2)
        iexact HagP
    iexact HT
  iintro HT
  -- the peers have entered: their slots for this device come
  iapply (step_barWait P K c) $$ [HcB HaB HT]
  · isplitr [HT]
    · isplitl [HcB] <;> iassumption
    iexact HT
  iintro ⟨⟨Hen, HaB⟩, HT⟩
  ihave Hen := (Entails.of_eq (show (bigSep Finset.univ fun j => enterPay c (peer c j) : sProp 𝕄)
    = iprop((bigSep Finset.univ fun j => iprop(∃ f, rsPts (peer c j) c f)) ∗ bigSep Finset.univ fun j => iprop(∃ f, agPts (peer c j) c f)) from bigSep_sep' _ _ _)) $$ Hen
  icases Hen with ⟨HrsP, HagP⟩
  -- the device's own part
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg1_0) (Finset.subset_univ _)) $$ Hq; iintro Hq
  iapply (wp_load 𝒱₀ (c : Thread nD τ) none Set.univ (m := Memref.whole cc0_stg3_0) (Finset.subset_univ _)) $$ Hk; iintro Hk
  iapply (wp_load 𝒱₀ (c : Thread nD τ) none Set.univ (m := Memref.whole cc0_stg4_0) (Finset.subset_univ _)) $$ Hv; iintro Hv
  iapply (wp_load 𝒱₀ (c : Thread nD τ) none Set.univ (m := Memref.whole cc0_stg2_0) (Finset.subset_univ _)) $$ Ho; iintro Ho
  iapply (wp_load 𝒱₀ (c : Thread nD τ) none Set.univ (m := partM) (Finset.subset_univ _)) $$ Hs0; iintro Hs0
  iapply (wp_store 𝒱₀ (c : Thread nD τ) none Set.univ (m := partM) (r := Rect.unit (s := S512x1024) ![0, 0] S512x1024.size inb_S512x1024_S512x1024_0_0) (Mk := Finset.univ) (Finset.subset_univ _)) $$ Hs0; iintro Hs0
  rw [read_x X, read_q Wq, read_k Wk, read_v Wv, read_o Wo, write_part s0, ← hP]
  ihave Hs0 := (Entails.of_eq (split_part P c)) $$ Hs0
  icases Hs0 with ⟨HpO, HpP⟩
  -- the first exchange
  iapply (loop_rsSend P K c) $$ [HpP HrsP HtRs HtRr HT]
  · isplitr [HT]
    · rw [bigSep_sep', bigSep_sep', bigSep_sep']
      isplitl [HpP]; · iexact HpP
      isplitl [HrsP]; · iexact HrsP
      isplitl [HtRs] <;> iassumption
    iexact HT
  iintro ⟨HcRs, HT⟩
  iapply (wp_ownRs P c (k0_off4_eq c) _ (k0_off5_eq c) _) $$ [HpO HrsO]
  · isplitl [HpO]; · iexact HpO
    iexists s1; iexact HrsO
  iintro ⟨HpO, HrsO⟩
  iapply (loop_rsWait P K c) $$ [HcR HaRr HT]
  · isplitr [HT]
    · rw [bigSep_sep']
      isplitl [HcR] <;> iassumption
    iexact HT
  iintro ⟨HrsP, HT⟩
  ihave HrsP := (Entails.of_eq (bigSep_sep' _ _ _)) $$ HrsP
  icases HrsP with ⟨HrsP, HaRr⟩
  ihave Hs1 := (Entails.of_eq (split_rs (F := F) c (RS P c)).symm) $$ [HrsO HrsP]
  · isplitl [HrsO] <;> iassumption
  -- the sum
  iapply (wp_load 𝒱₀ (c : Thread nD τ) none Set.univ (m := rsM) (Finset.subset_univ _)) $$ Hs1; iintro Hs1
  iapply (wp_load 𝒱₀ (c : Thread nD τ) none Set.univ (m := bcM) (Finset.subset_univ _)) $$ Hs3; iintro Hs3
  iapply (wp_store 𝒱₀ (c : Thread nD τ) none Set.univ (m := bcM) (r := Rect.unit (s := S16x1024) ![0, 0] S16x1024.size inb_S16x1024_S16x1024_0_0) (Mk := Finset.univ) (Finset.subset_univ _)) $$ Hs3; iintro Hs3
  rw [read_rs, write_bc,
    show k0_pay21 (RS P c) = BC P c from rfl]
  iapply (wp_load 𝒱₀ (c : Thread nD τ) none Set.univ (m := bcM) (Finset.subset_univ _)) $$ Hs3; iintro Hs3
  rw [read_bc]
  iapply (wp_ownAg P c (k0_off5_eq c) _) $$ [HagO]
  · iexists s2; iexact HagO
  iintro HagO
  ihave Hs3 := (Entails.of_eq (split_bc P c)) $$ Hs3
  icases Hs3 with ⟨HbO, HbP⟩
  -- the second exchange
  iapply (loop_agSend P K c) $$ [HbP HagP HtAs HtAr HT]
  · isplitr [HT]
    · rw [bigSep_sep', bigSep_sep', bigSep_sep']
      isplitl [HbP]; · iexact HbP
      isplitl [HagP]; · iexact HagP
      isplitl [HtAs] <;> iassumption
    iexact HT
  iintro ⟨HcAs, HT⟩
  iapply (loop_agWait P K c) $$ [HcA HaAr HT]
  · isplitr [HT]
    · rw [bigSep_sep']
      isplitl [HcA] <;> iassumption
    iexact HT
  iintro ⟨HagP, HT⟩
  ihave HagP := (Entails.of_eq (bigSep_sep' _ _ _)) $$ HagP
  icases HagP with ⟨HagP, HaAr⟩
  ihave Hs2 := (Entails.of_eq (split_ag (F := F) c (AG P)).symm) $$ [HagO HagP]
  · isplitl [HagO] <;> iassumption
  iapply (wp_load 𝒱₀ (c : Thread nD τ) none Set.univ (m := agM) (Finset.subset_univ _)) $$ Hs2; iintro Hs2
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0) (r := Rect.unit (s := S1x512x1024) ![0, 0, 0] S1x512x1024.size inb_S1x512x1024_S1x512x1024_0_0_0) (Mk := Finset.univ) (Finset.subset_univ _)) $$ Hout; iintro Hout
  rw [read_ag, write_out,
    show k0_pay23 (AG P) = OUT P from rfl]
  -- every copy has left
  have hd := loop_drain P K c (fun _ => pure ⟨⟩) Q
  rw [bind_pure_unit, bigSep_sep', bigSep_sep', bigSep_sep', bigSep_sep', bigSep_sep', bigSep_sep'] at hd
  iapply hd $$ [HcRs HaRs HcAs HaAs HT]
  · isplitr [HT]
    · isplitl [HcRs HaRs]
      · isplitl [HcRs] <;> iassumption
      · isplitl [HcAs] <;> iassumption
    iexact HT
  iintro ⟨⟨⟨HpP, HaRs⟩, ⟨HbP, HaAs⟩⟩, HT⟩
  ihave Hs0 := (Entails.of_eq (split_part P c).symm) $$ [HpO HpP]
  · isplitl [HpO] <;> iassumption
  ihave Hs3 := (Entails.of_eq (split_bc P c).symm) $$ [HbO HbP]
  · isplitl [HbO] <;> iassumption
  -- the semaphores close
  ihave Hg := (gather P c) $$ [HaB HaRs HaRc HaRr HaAs HaAc HaAr]
  · isplitl [HaB]; · iexact HaB
    isplitl [HaRs HaRc HaRr]
    · isplitl [HaRs]; · iexact HaRs
      isplitl [HaRc] <;> iassumption
    · isplitl [HaAs]; · iexact HaAs
      isplitl [HaAc] <;> iassumption
  unfold run
  icases HT with ⟨#Hr, #Hlev, HO⟩
  simp only [Prog.pure_eq_ret, wp_ret]
  imod (close_all P K c) $$ [Hg] with Hz
  · isplitr; · iexact Hr
    iexact Hg
  imodintro
  iapply Hend
  isplitl [Hz]; · iexact Hz
  isplitl [HO]
  · isplitr; · iexact Hr
    isplitr; · iexact Hlev
    iexact HO
  isplitl [Hx Hq Ho Hk Hv]
  · isplitl [Hx]; · iexact Hx
    isplitl [Hq]; · iexact Hq
    isplitl [Ho]; · iexact Ho
    isplitl [Hk] <;> iassumption
  isplitl [Hout]; · iexact Hout
  isplitl [Hs0]; · iexists _; iexact Hs0
  isplitl [Hs1]; · iexists _; iexact Hs1
  isplitl [Hs2]; · iexists _; iexact Hs2
  iexists _; iexact Hs3

end Cert.KernelIdealProof

end
-- ==== Proof.DealIdeal.lean ====
/-
  The launch's ghost resources dealt to the devices: the duty tokens minted per semaphore go to the devices that pay them,
  what the launch knows to be owed becomes each device's right to wait, and every semaphore gets its invariant.
-/
module

public import proofs.«01_k».proof.Proof.BodyIdeal

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → S512x1024.Idx → Elt F .bf16)

/-! ## The semaphores and the tokens -/

/-- The kernel's own semaphores. -/
abbrev osem : OK → SemLoc sig := fun o => semOf (.inr o)

theorem ownSemFacts : Pipeline.OwnSemFacts cfg0.spec osem where
  isScoped := by decide +kernel
  inj := fun a b h => Sum.inr_injective (semOf_inj h)
  disj := by decide +kernel

abbrev cellAt (ck : Dev nD × Kd) : GSem nD τ sig := cell ck.1 ck.2
theorem cellAt_inj : Function.Injective cellAt := fun a b h => Prod.ext (cell_inj h).1 (cell_inj h).2
/-- Every device's semaphores. -/
def theCells : Finset (GSem nD τ sig) := Finset.univ.map ⟨cellAt, cellAt_inj⟩

abbrev tokAt (x : (Dev nD × Kd) × Dev nD) : GSem nD τ sig × ℕ × Dev nD := (cellAt x.1, 0, x.2)
theorem tokAt_inj : Function.Injective tokAt := fun a b h =>
  Prod.ext (cellAt_inj (congrArg Prod.fst h)) (congrArg (fun y : GSem nD τ sig × ℕ × Dev nD => y.2.2) h)
/-- One duty token per semaphore and device. -/
def theToks : Finset (GSem nD τ sig × ℕ × Dev nD) := Finset.univ.map ⟨tokAt, tokAt_inj⟩

def u₀ : UU := (initOf (Pipeline.cells cfgs cellOf_inj) (Pipeline.launchToks cfgs cellOf_inj), initOf theCells theToks)

/-- The tokens of device `c`'s own semaphores. -/
def toks (c : Dev nD) : sProp 𝕄 := bigSep Finset.univ fun k : Kd => bigSep Finset.univ fun d : Dev nD => dutyTok ER (cell c k) 0 d

/-- What the launch element deals device `c`. -/
def G (c : Dev nD) : sProp 𝕄 :=
  iprop((bigSep Finset.univ fun k : Kd => roundState ER (Rd P) (cell c k) 0)
    ∗ (bigSep Finset.univ fun k : Kd => iprop(atPos ER (cell c k) 0 ∅ 0 ∗ reached ER (cell c k) 0)) ∗ toks c)

/-- What device `c` starts from once the invariants stand. -/
def G' (c : Dev nD) : sProp 𝕄 := iprop(∃ K, records P K ∗ payToks c ∗ bigSep Finset.univ fun k : Kd => atPos ER (cell c k) 0 ∅ 0)

theorem fund_cells : BI.own (ER (initOf theCells theToks)) ⊢ (|==> bigSep Finset.univ (G P) : sProp 𝕄) := by
  have hX (Φ : GSem nD τ sig → sProp 𝕄) : bigSep theCells Φ = bigSep Finset.univ fun c : Dev nD => bigSep Finset.univ fun k : Kd => Φ (cell c k) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod, bigSep_univ_prod]; rfl
  iintro HX
  imod (Rounds.fund ER (Rd P) theCells theToks) $$ HX with ⟨Hst, Hr, Hat, Htok⟩
  imodintro
  ihave Hst' := (Entails.of_eq (hX fun g => roundState ER (Rd P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every semaphore's invariant -/

theorem unscopedSems0_eq (c : Dev nD) : (unscopedSems0 c : sProp 𝕄) = semVal (cell c kBar) 0 := by
  unfold unscopedSems0; rw [bigSep_eq_bigSepL_of_eq [SemLoc.reg barSem] (by decide +kernel) (by decide +kernel)]; rfl

/-- A device's semaphores are its own and the entry semaphore. -/
theorem sems0_eq (c : Dev nD) :
    (bigSep Finset.univ fun k : Kd => semVal (cell c k) 0 : sProp 𝕄)
      = iprop(unscopedSems0 c ∗ Pipeline.ownSems0 (Ix := Unit) (Name := ℕ) (U := UU) (Lvl := ℕ) (Val := Elt F) (τ := τ) osem c) := by
  rw [bigSep_univ_sum, unscopedSems0_eq, Finset.univ_unique, bigSep_singleton]; rfl

theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k => iprop(∃ κ : ℕ, cellInv ER (Rd P) κ (cell c k)))
          ∗ (bigSep Finset.univ fun k => iprop(atPos ER (cell c k) 0 ∅ 0 ∗ reached ER (cell c k) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Kd => semVal (cell c k) 0) ∗ bigSep Finset.univ fun k : Kd => roundState ER (Rd P) (cell c k) 0)
      ⊢ (|={Set.univ}=> bigSep Finset.univ fun k => iprop(∃ κ : ℕ, cellInv ER (Rd P) κ (cell c k)) : sProp 𝕄) from by
        rw [← bigSep_sep']
        exact (bigSep_mono fun k _ => (Rounds.body_intro ER (Rd P) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens, from the devices that own the semaphores to those that pay -/

/-- Tokens held per owner and payer, turned to the payers: each payer keeps those of its peers. -/
theorem turn (T : Dev nD → Dev nD → sProp 𝕄) :
    (bigSep Finset.univ fun c => bigSep Finset.univ fun d => T c d) ⊢ bigSep Finset.univ fun d => bigSep Finset.univ fun j => T (peer d j) d := by
  rw [← bigSep_univ_prod (fun x : Dev nD × Dev nD => T x.1 x.2), bigSep_univ_equiv (Equiv.prodComm (Dev nD) (Dev nD)) (fun x : Dev nD × Dev nD => T x.1 x.2), bigSep_univ_prod]
  exact bigSep_mono fun d _ => by rw [peers_sep d]; exact BI.sep_and.trans BI.and_elimR

/-- Of a semaphore's tokens, the one of a given payer. -/
theorem pick {I : Type} [Fintype I] [DecidableEq I] (T : I → Dev nD → sProp 𝕄) (d : I → Dev nD) :
    (bigSep Finset.univ fun i => bigSep Finset.univ fun e => T i e) ⊢ bigSep Finset.univ fun i => T i (d i) :=
  bigSep_mono fun i _ => bigSep_elim (Finset.mem_univ (d i))

theorem deal : (bigSep Finset.univ fun c : Dev nD => (toks c : sProp 𝕄)) ⊢ bigSep Finset.univ fun c : Dev nD => payToks c := by
  unfold toks payToks
  simp only [kinds_sep, bigSep_sep']
  refine BI.sep_mono (turn fun c d => dutyTok ER (cell c kBar) 0 d) (BI.sep_mono (BI.sep_mono ?_ ?_) (BI.sep_mono ?_ ?_))
  · exact bigSep_mono fun c _ => pick (fun j d => dutyTok ER (cell c (kRss j)) 0 d) fun _ => c
  · exact (bigSep_mono fun c _ => pick (fun s d => dutyTok ER (cell c (kRsr s)) 0 d) fun s => s).trans (turn fun c s => dutyTok ER (cell c (kRsr s)) 0 s)
  · exact bigSep_mono fun c _ => pick (fun j d => dutyTok ER (cell c (kAgs j)) 0 d) fun _ => c
  · exact (bigSep_mono fun c _ => pick (fun s d => dutyTok ER (cell c (kAgr s)) 0 d) fun s => s).trans (turn fun c s => dutyTok ER (cell c (kAgr s)) 0 s)

theorem regroup :
    (bigSep Finset.univ fun c : Dev nD => iprop((bigSep Finset.univ fun k => iprop(∃ κ : ℕ, cellInv ER (Rd P) κ (cell c k)))
          ∗ (bigSep Finset.univ fun k => iprop(atPos ER (cell c k) 0 ∅ 0 ∗ reached ER (cell c k) 0)) ∗ toks c) : sProp 𝕄)
      ⊢ bigSep Finset.univ (G' P) := by
  rw [bigSep_sep', bigSep_sep', ← bigSep_univ_prod (fun ck : Dev nD × Kd => iprop(∃ κ : ℕ, cellInv ER (Rd P) κ (cell ck.1 ck.2))),
    bigSep_congr (s := Finset.univ) (fun (c : Dev nD) _ => bigSep_sep' Finset.univ (fun k : Kd => (atPos ER (cell c k) 0 ∅ 0 : sProp 𝕄)) (fun k => reached ER (cell c k) 0)),
    bigSep_sep', ← bigSep_univ_prod (fun ck : Dev nD × Kd => (reached ER (cell ck.1 ck.2) 0 : sProp 𝕄))]
  iintro ⟨HI, ⟨Hat, #HR⟩, Htok⟩
  ihave HK := (BI.bigSep_exists_pi Finset.univ (fun (ck : Dev nD × Kd) (κ : ℕ) => (cellInv ER (Rd P) κ (cell ck.1 ck.2) : sProp 𝕄))) $$ HI
  icases HK with ⟨%K, #HI⟩
  ihave Htk := (deal (F := F)) $$ Htok
  iapply (bigSep_under (R := records P K) (S := Finset.univ)
    (Φ := fun c : Dev nD => iprop(payToks c ∗ bigSep Finset.univ fun k : Kd => atPos ER (cell c k) 0 ∅ 0)) (Ψ := G' P) fun c =>
      (show iprop(records P K ∗ payToks c ∗ bigSep Finset.univ fun k : Kd => atPos ER (cell c k) 0 ∅ 0) ⊢ (G' P c : sProp 𝕄) from by
        unfold G'; iintro H; iexists K; iexact H))
  isplitr
  · unfold records; isplitl; · iexact HI
    iexact HR
  · rw [bigSep_sep']
    isplitl [Htk]; · iexact Htk
    iexact Hat

/-- All devices' semaphores at once: invariants allocated, tokens dealt. -/
theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  ((bigSep_mono fun c _ => core_alloc P c).trans (bigSep_fupd _ _)).trans (BI.fupd_mono (regroup P))

/-! ## What is owed to each device at the launch -/

theorem js_sum (f : Fin 31 → ℕ) : (js.map f).sum = ∑ j, f j := (Fin.sum_univ_def f).symm

/-- A device's debts to its peers, read at one semaphore. -/
theorem debts_at (d : Dev nD) (k : Kd) (n : ℕ) (g : GSem nD τ sig) :
    (js.map fun j => (tallyAt (cell (peer d j) k) () n : CellTallies nD τ sig Unit)).sum g () = ∑ j, if g = cell (peer d j) k then n else 0 := by
  rw [← js_sum]
  have h (l : List (Fin 31)) : (l.map fun j => (tallyAt (cell (peer d j) k) () n : CellTallies nD τ sig Unit)).sum g ()
      = (l.map fun j => if g = cell (peer d j) k then n else 0).sum := by
    induction l with
    | nil => rfl
    | cons j l ih =>
      rw [List.map_cons, List.sum_cons, List.map_cons, List.sum_cons, Pi.add_apply, Finsupp.add_apply, ih, tallyAt_apply]
      simp only [and_true]
  exact h js

theorem count_bar : ∀ c : Dev nD, (∑ d : Dev nD, ∑ j, if c = peer d j then 1 else 0) = 31 := by decide +kernel

theorem owed_bar (c : Dev nD) : (∑ d, oBar d js (cell c kBar) ()) = 31 := by
  rw [← count_bar c]
  refine Finset.sum_congr rfl fun d _ => ?_
  unfold oBar; rw [debts_at]
  exact Finset.sum_congr rfl fun j _ => if_congr ⟨fun h => (cell_inj h).1, fun h => by rw [h]⟩ rfl rfl

/-- Of all devices only `s` owes to a semaphore kept for `s`, and to a peer it owes once. -/
theorem owed_arrival (κ : Dev nD → Kd) (hκ : Function.Injective κ) (c : Dev nD) (i : Fin 31) (n : ℕ) :
    (∑ d, (js.map fun j => (tallyAt (cell (peer d j) (κ d)) () n : CellTallies nD τ sig Unit)).sum (cell c (κ (peer c i))) ()) = n := by
  rw [Finset.sum_eq_single (peer c i)]
  · obtain ⟨j, hj⟩ := exists_peer (peer c i) c (peer_ne c i).symm
    rw [debts_at, Finset.sum_eq_single j]
    · rw [if_pos (by rw [hj])]
    · exact fun j' _ hne => if_neg fun h => hne (peer_inj _ ((cell_inj h).1.symm.trans hj.symm))
    · exact fun h => absurd (Finset.mem_univ _) h
  · intro d _ hd
    rw [debts_at]
    exact Finset.sum_eq_zero fun j _ => if_neg fun h => hd (hκ (cell_inj h).2).symm
  · exact fun h => absurd (Finset.mem_univ _) h

/-- The launch's credit at a semaphore is what all devices owe to it. -/
theorem tally_at (O : Dev nD → CellTallies nD τ sig Unit) (g : GSem nD τ sig) (n : ℕ) (h : (∑ d, O d g ()) = n) :
    tallyOn g (launchCredit (Pipeline.owing O) 0 g) = (tallyAt g () n : CellTallies nD τ sig Unit) := by
  unfold tallyAt
  refine congrArg _ (Finsupp.ext fun u => ?_); cases u
  rw [Pipeline.launchCredit_owing, h, Finsupp.single_eq_same]
theorem cred_at (O : Dev nD → CellTallies nD τ sig Unit) (g : GSem nD τ sig) (n : ℕ) (h : (∑ d, O d g ()) = n) :
    (cred (tallyOn g (launchCredit (Pipeline.owing O) 0 g)) : sProp 𝕄) = cred (tallyAt g () n) := by
  rw [tally_at O g n h]

theorem creds_bar (c : Dev nD) : (Pipeline.launchCred (fun d => oBar d js) c : sProp 𝕄) ⊢ cred (tallyAt (cell c kBar) () 31) := by
  unfold Pipeline.launchCred
  rw [← cred_at (fun d => oBar d js) (cell c kBar) 31 (owed_bar c)]
  exact bigSep_elim (Finset.mem_univ (semOf kBar))

theorem creds_arrival (O : Dev nD → CellTallies nD τ sig Unit) (κ : Dev nD → Kd) (hκ : Function.Injective κ) (c : Dev nD)
    (hO : ∀ d, O d = (js.map fun j => tallyAt (cell (peer d j) (κ d)) () N).sum) :
    (Pipeline.launchCred O c : sProp 𝕄) ⊢ bigSep Finset.univ fun i => cred (tallyAt (cell c (κ (peer c i))) () N) := by
  have hinj : Function.Injective fun i => semOf (κ (peer c i)) := fun i i' h => peer_inj c (hκ (semOf_inj h))
  have hc (i : Fin 31) : (∑ d, O d (cell c (κ (peer c i))) ()) = N := by
    rw [Finset.sum_congr rfl fun d _ => by rw [hO d]]; exact owed_arrival κ hκ c i N
  rw [bigSep_congr (s := Finset.univ) fun i _ => (cred_at O (cell c (κ (peer c i))) N (hc i)).symm]
  unfold Pipeline.launchCred
  refine (bigSep_subset (Finset.subset_univ (Finset.univ.map ⟨_, hinj⟩))).trans ?_
  rw [bigSep_map]; exact Entails.refl _

theorem creds (c : Dev nD) : (Pipeline.launchCred O₀ c : sProp 𝕄) ⊢ startCreds c := by
  have e : (O₀ : Dev nD → CellTallies nD τ sig Unit) = fun d => (oAg d js + oRs d js) + oBar d js := rfl
  rw [e, Pipeline.launchCred_add (fun d => oAg d js + oRs d js) (fun d => oBar d js),
    Pipeline.launchCred_add (fun d => oAg d js) (fun d => oRs d js)]
  unfold startCreds
  iintro ⟨⟨HA, HR⟩, HB⟩
  isplitl [HB]; · iapply (creds_bar (F := F) c); iexact HB
  isplitl [HR]
  · iapply (creds_arrival (F := F) (fun d => oRs d js) (fun s => kRsr s) (fun a b h => by injection h with h; injection h with h; injection h) c fun _ => rfl); iexact HR
  · iapply (creds_arrival (F := F) (fun d => oAg d js) (fun s => kAgr s) (fun a b h => by injection h with h; injection h with h; injection h) c fun _ => rfl); iexact HA

end Cert.KernelIdealProof

end
-- ==== Proof.RunIdeal.lean ====
/-
  The kernel launched on every device: what each device's result array holds when all have finished.
-/
module

public import proofs.«01_k».proof.Proof.DealIdeal
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.Pipeline (Dat Cfg Window BodyObligation)

local notation "𝕄" => MT nD τ sig Unit (Elt F) ℕ UU ℕ

variable (m : (ℓ : Loc nD τ sig) → Buf (Elt F) ℓ) (ρ : Dev nD → PrngReg)

/-! ## What the operands hold -/

/-- Device `c`'s operands as staged: the input rows, -/
def inX (c : Dev nD) : S1x512x1024.Idx → Elt F .f32 := (win0_0.blk (0 : Fin 1)).view.read (Elt F) (m ((c : Thread nD τ).loc main_arg0))
/-- the query weights, -/
def inQ (c : Dev nD) : S1024x1024.Idx → Elt F .f32 := (win0_1.blk (0 : Fin 1)).view.read (Elt F) (m ((c : Thread nD τ).loc main_arg1))
/-- the output weights, -/
def inO (c : Dev nD) : S1024x1024.Idx → Elt F .f32 := (win0_2.blk (0 : Fin 1)).view.read (Elt F) (m ((c : Thread nD τ).loc main_arg4))
/-- the key weights, -/
def inK (c : Dev nD) : S1024x1024.Idx → Elt F .f32 := (win0_3.blk (0 : Fin 1)).view.read (Elt F) (m ((c : Thread nD τ).loc main_arg2))
/-- and the value weights. -/
def inV (c : Dev nD) : S1024x1024.Idx → Elt F .f32 := (win0_4.blk (0 : Fin 1)).view.read (Elt F) (m ((c : Thread nD τ).loc main_arg3))

/-- Device `c`'s partial product. -/
def part (c : Dev nD) : S512x1024.Idx → Elt F .bf16 := partVal (inX m c) (inQ m c) (inK m c) (inV m c) (inO m c)

/-! ## The data of the launch -/

/-- What a device's body starts from besides the staging buffers. -/
def start (c : Dev nD) : sProp 𝕄 := iprop(G' (part m) c ∗ startCreds c ∗ levAts L lv)
def Φ₀ (c : Dev nD) : sProp 𝕄 := iprop(start m c ∗ scratch c)
def Φ₁ (c : Dev nD) : sProp 𝕄 := iprop((bigSep Finset.univ fun k : Kd => semVal (cell c k) 0) ∗ scratch c)

def dats (_ : Fin 1) (c : Dev nD) : Dat τ (Elt F) Unit ℕ UU ℕ cfg0 c where
  A w := m ((cfg0.win w).arr.view.loc (c : Thread nD τ))
  after w _ := match w with
    | ⟨0, _⟩ => inX m c
    | ⟨1, _⟩ => inQ m c
    | ⟨2, _⟩ => inO m c
    | ⟨3, _⟩ => inK m c
    | ⟨4, _⟩ => inV m c
    | ⟨5, _⟩ => OUT (part m)
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X) := by
  have h : (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
    unfold owns; simp only [Memref.view_whole, View.read_whole, View.set_whole]
  rw [h]
  refine Entails.antisymm ?_ ?_
  · exact (show iprop(∃ f : Buf (Elt F) (((c : Dev nD) : Thread nD τ).loc b), ⌜f = X⌝ ∗ (((c : Thread nD τ).loc b) ↦{fullShare} f)) ⊢ (((((c : Thread nD τ).loc b) ↦{fullShare} X)) : sProp 𝕄) from by
      iintro ⟨%f, %hf, H⟩; subst hf; iexact H)
  · exact (show ((((c : Thread nD τ).loc b) ↦{fullShare} X) : sProp 𝕄) ⊢ iprop(∃ f : Buf (Elt F) (((c : Dev nD) : Thread nD τ).loc b), ⌜f = X⌝ ∗ (((c : Thread nD τ).loc b) ↦{fullShare} f)) from by
      iintro H; iexists X; isplitr; · (ipureintro; rfl)
      iexact H)

/-- Before the body: the staged operands, and the result's staging buffer at any contents. -/
def bodyPre (c : Dev nD) : sProp 𝕄 :=
  iprop(Φ₀ m c ∗ (dats m 0 c).owesAt () t0_0.castSucc
    ∗ (∃ d, ((c : Thread nD τ).loc cc0_stg0_0) ↦{fullShare} (dats m 0 c).before (0 : Fin 6) t0_0 d)
    ∗ (∃ d, ((c : Thread nD τ).loc cc0_stg1_0) ↦{fullShare} (dats m 0 c).before (1 : Fin 6) t0_0 d)
    ∗ (∃ d, ((c : Thread nD τ).loc cc0_stg2_0) ↦{fullShare} (dats m 0 c).before (2 : Fin 6) t0_0 d)
    ∗ (∃ d, ((c : Thread nD τ).loc cc0_stg3_0) ↦{fullShare} (dats m 0 c).before (3 : Fin 6) t0_0 d)
    ∗ (∃ d, ((c : Thread nD τ).loc cc0_stg4_0) ↦{fullShare} (dats m 0 c).before (4 : Fin 6) t0_0 d)
    ∗ (∃ d, ((c : Thread nD τ).loc cc0_stg5_0) ↦{fullShare} (dats m 0 c).before (5 : Fin 6) t0_0 d))

/-- After the body: the operands as they were, the result's staging buffer at the computed rows. -/
def bodyPost (c : Dev nD) : sProp 𝕄 :=
  iprop(Φ₁ c ∗ (dats m 0 c).owesAt () t0_0.succ
    ∗ (((c : Thread nD τ).loc cc0_stg0_0) ↦{fullShare} inX m c) ∗ (((c : Thread nD τ).loc cc0_stg1_0) ↦{fullShare} inQ m c)
    ∗ (((c : Thread nD τ).loc cc0_stg2_0) ↦{fullShare} inO m c) ∗ (((c : Thread nD τ).loc cc0_stg3_0) ↦{fullShare} inK m c)
    ∗ (((c : Thread nD τ).loc cc0_stg4_0) ↦{fullShare} inV m c) ∗ (((c : Thread nD τ).loc cc0_stg5_0) ↦{fullShare} OUT (part m)))

theorem before_0 (c : Dev nD) (d) : (dats m 0 c).before (0 : Fin 6) t0_0 d = inX m c := by
  unfold Dat.before; rw [if_pos (fetch0_0 t0_0)]; rfl
theorem before_1 (c : Dev nD) (d) : (dats m 0 c).before (1 : Fin 6) t0_0 d = inQ m c := by
  unfold Dat.before; rw [if_pos (fetch0_1 t0_0)]; rfl
theorem before_2 (c : Dev nD) (d) : (dats m 0 c).before (2 : Fin 6) t0_0 d = inO m c := by
  unfold Dat.before; rw [if_pos (fetch0_2 t0_0)]; rfl
theorem before_3 (c : Dev nD) (d) : (dats m 0 c).before (3 : Fin 6) t0_0 d = inK m c := by
  unfold Dat.before; rw [if_pos (fetch0_3 t0_0)]; rfl
theorem before_4 (c : Dev nD) (d) : (dats m 0 c).before (4 : Fin 6) t0_0 d = inV m c := by
  unfold Dat.before; rw [if_pos (fetch0_4 t0_0)]; rfl

/-- The body turns the one into the other. -/
theorem sound (c : Dev nD) : bodyPre m c ⊢ WP c theBody (fun _ => bodyPost m c) := by
  unfold bodyPre Φ₀ start G'
  simp only [before_0, before_1, before_2, before_3, before_4]
  iintro ⟨⟨⟨⟨%K, #HR, Htok, Hat⟩, Hcr, #Hlev⟩, Hscr⟩, ⟨%W, -, HO⟩, ⟨%d0, H0⟩, ⟨%d1, H1⟩, ⟨%d2, H2⟩, ⟨%d3, H3⟩, ⟨%d4, H4⟩, ⟨%d5, H5⟩⟩
  iapply (wp_body (part m) K c (inX m c) (inQ m c) (inO m c) (inK m c) (inV m c) rfl ((dats m 0 c).before (5 : Fin 6) t0_0 d5) (fun _ => bodyPost m c)) $$ [Htok Hat Hcr HO H0 H1 H2 H3 H4 H5 Hscr]
  · unfold ghost run inputs
    isplitl [Htok Hat Hcr]
    · isplitl [Htok]; · iexact Htok
      isplitl [Hat]; · iexact Hat
      iexact Hcr
    isplitl [HO]
    · isplitr; · iexact HR
      isplitr; · iexact Hlev
      iexists W; iexact HO
    isplitl [H0 H1 H2 H3 H4]
    · isplitl [H0]; · iexact H0
      isplitl [H1]; · iexact H1
      isplitl [H2]; · iexact H2
      isplitl [H3]; · iexact H3
      iexact H4
    isplitl [H5]; · iexact H5
    iexact Hscr
  unfold run inputs bodyPost Φ₁
  iintro ⟨Hz, ⟨-, -, ⟨%W', HO⟩⟩, ⟨H0, H1, H2, H3, H4⟩, H5, Hscr⟩
  isplitl [Hz Hscr]
  · isplitl [Hz] <;> iassumption
  isplitl [HO]
  · iexists W'
    isplitr; · (ipureintro; exact fun _ _ => Or.inl trivial)
    iexact HO
  isplitl [H0]; · iexact H0
  isplitl [H1]; · iexact H1
  isplitl [H2]; · iexact H2
  isplitl [H3]; · iexact H3
  isplitl [H4]; · iexact H4
  iexact H5

set_option maxRecDepth 100000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  have e : (defs₀ (F := F) Proc.tc 0 (t0_0, cfg0.slots t0_0) : BodyProg F) = theBody := by
    have e' : (defs₀ (F := F) Proc.tc 0 (t0_0, cfg0.slots t0_0) : BodyProg F) = bodyAt0 t0_0 := rfl
    rw [e']; unfold bodyAt0; rw [body_eq]
  rw [e]
  exact sound m c

/-! ## The side conditions of the launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (part m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scratch
  iintro ⟨Hz, Hr⟩
  ihave Hz := (Entails.of_eq (sems0_eq (F := F) c)) $$ Hz
  icases Hz with ⟨Hu, Ho⟩
  isplitl [Hu]; · iexact Hu
  isplitl [Ho]; · iexact Ho
  iexact Hr

theorem stage_lv (c : Dev nD) : ∀ (w : Fin cfg0.W) (s : Fin (cfg0.win w).nbuf), lv ((c : Thread nD τ), .dma ((cfg0.win w).sem s)) () ≤ 0 := by
  revert c; decide +kernel

theorem waits (c : Dev nD) : (levAts L lv : sProp 𝕄) ⊢ Pipeline.cellsWaits cfgs (dats m) () 0 c :=
  Pipeline.cellsWaits_intro cfgs (dats m) () 0 c fun w s t =>
    mayWait_of_above c _ 0 (stage_lv c w s) _ (by
      rcases t with ⟨_ | _, ht⟩
      · exact above_add (above_add (above_oAg c js (by decide)) (above_oRs c js (by decide))) (above_oBar c js)
      · exact above_zero 0)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- From any memory with zero counters, for any float values: every weakly fair execution of the kernel on all devices terminates
    with every array at the computed contents and every semaphore counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (part m)) (G' := G' (part m)) (u₀ := u₀)
    (hu₀ := by
      unfold u₀
      iintro Hu
      ihave H := (ownU_pair _ _) $$ Hu
      icases H with ⟨HP, HX⟩
      imod (fund_cells (part m)) $$ HX with HG
      imodintro
      isplitl [HP] <;> iassumption)
    (hglob := glob (part m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem final_args (c : Dev nD) (r : PUnit × MemSt nD τ sig (Elt F)) (h : QC m r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c 0).trans ((dats m 0 c).arrAt_in 0 rfl _), (h c 1).trans ((dats m 0 c).arrAt_in 1 rfl _), (h c 3).trans ((dats m 0 c).arrAt_in 3 rfl _),
    (h c 4).trans ((dats m 0 c).arrAt_in 4 rfl _), (h c 2).trans ((dats m 0 c).arrAt_in 2 rfl _)⟩

end Cert.KernelIdealProof

end
-- ==== Proof.Attention.lean ====
/-
  The mathematics of the layer, over the extended reals: projection, softmax attention by heads of width 128, output
  projection; and that the whole layer is the sum of the parts which 32 devices compute from 1024 columns each.
-/
module

public import Idealize.ShloMosaic.PureOps.Ideal

@[expose] public section

noncomputable section

namespace Cert.Attention

open Idealize.ShloMosaic
open scoped BigOperators

/-- A matrix of extended reals. -/
abbrev Mat (a b : ℕ) := Fin a → Fin b → EReal

/-- The scale, `1/√128`. -/
def scale : EReal := (((Real.sqrt 128)⁻¹ : ℝ) : EReal)

/-- The product of two matrices at an entry. -/
def mul {a b n : ℕ} (X : Mat a b) (W : Mat b n) : Mat a n := fun i j => ∑ k, X i k * W k j

/-- The scaled score of query row `i` against key row `j`. -/
def score (q k : Mat 512 128) : Mat 512 512 := fun i j => (∑ d, q i d * k j d) * scale

/-- The greatest score of a query row. -/
def top (q k : Mat 512 128) (i : Fin 512) : EReal := Finset.univ.fold max ⊥ (score q k i)

/-- The weight of key row `j` for query row `i`, before it is divided by the sum of the row. -/
def weight (q k : Mat 512 128) : Mat 512 512 := fun i j => Ideal.exp (score q k i j - top q k i)

/-- One head: the values averaged by the weights of the row. -/
def head (q k v : Mat 512 128) : Mat 512 128 := fun i d =>
  Ideal.div (∑ j, weight q k i j * v j d) (∑ j, weight q k i j)

/-- Column `128·⌊e/128⌋ + d` exists where column `e` does. -/
theorem group_lt {n : ℕ} (hn : 128 ∣ n) (e : Fin n) (d : Fin 128) : 128 * (e.val / 128) + d.val < n := by
  obtain ⟨k, rfl⟩ := hn
  have := e.isLt
  have := d.isLt
  omega

/-- The 128 columns of the head that column `e` belongs to. -/
def group {n : ℕ} (hn : 128 ∣ n) (y : Mat 512 n) (e : Fin n) : Mat 512 128 := fun i d =>
  y i ⟨128 * (e.val / 128) + d.val, group_lt hn e d⟩

/-- All heads side by side. -/
def heads {n : ℕ} (hn : 128 ∣ n) (q k v : Mat 512 n) : Mat 512 n := fun i e =>
  head (group hn q e) (group hn k e) (group hn v e) i ⟨e.val % 128, Nat.mod_lt _ (by norm_num)⟩

/-- The attention layer with `n` columns of heads. -/
def layer {n : ℕ} (hn : 128 ∣ n) (X : Mat 512 1024) (Wq Wk Wv : Mat 1024 n) (Wo : Mat n 1024) : Mat 512 1024 :=
  mul (heads hn (mul X Wq) (mul X Wk) (mul X Wv)) Wo

/-- Column `e` of device `c`'s 1024 columns, in the whole matrix. -/
def place (c : Fin 32) (e : Fin 1024) : Fin 32768 := ⟨1024 * c.val + e.val, by omega⟩

/-- The columns of one device. -/
def colsOf (W : Mat 1024 32768) (c : Fin 32) : Mat 1024 1024 := fun k e => W k (place c e)

/-- The rows of one device. -/
def rowsOf (W : Mat 32768 1024) (c : Fin 32) : Mat 1024 1024 := fun e o => W (place c e) o

/-- A sum over all columns is the sum over the devices of the sums over their columns. -/
theorem sum_place (f : Fin 32768 → EReal) : ∑ E, f E = ∑ c, ∑ e, f (place c e) := by
  rw [← Fintype.sum_prod_type' (fun c e => f (place c e))]
  refine (Equiv.sum_comp (finProdFinEquiv (m := 32) (n := 1024)) f).symm.trans (Finset.sum_congr rfl fun p _ => ?_)
  exact congrArg f (Fin.ext (Nat.add_comm _ _))

/-- The head of a device's column is the head of that column in the whole matrix. -/
theorem group_place (h1 : 128 ∣ 1024) (h2 : 128 ∣ 32768) (X : Mat 512 1024) (W : Mat 1024 32768) (c : Fin 32)
    (e : Fin 1024) : group h2 (mul X W) (place c e) = group h1 (mul X (colsOf W c)) e := by
  funext i d
  show ∑ k, X i k * W k _ = ∑ k, X i k * W k (place c _)
  refine Finset.sum_congr rfl fun k _ => congrArg (X i k * W k ·) (Fin.ext ?_)
  show 128 * ((1024 * c.val + e.val) / 128) + d.val = 1024 * c.val + (128 * (e.val / 128) + d.val)
  omega

/-- A device's columns of all heads. -/
theorem heads_place (h1 : 128 ∣ 1024) (h2 : 128 ∣ 32768) (X : Mat 512 1024) (Wq Wk Wv : Mat 1024 32768) (c : Fin 32)
    (i : Fin 512) (e : Fin 1024) :
    heads h2 (mul X Wq) (mul X Wk) (mul X Wv) i (place c e)
      = heads h1 (mul X (colsOf Wq c)) (mul X (colsOf Wk c)) (mul X (colsOf Wv c)) i e := by
  have hm : (place c e).val % 128 = e.val % 128 := by
    show (1024 * c.val + e.val) % 128 = e.val % 128
    omega
  unfold heads
  rw [group_place h1 h2, group_place h1 h2, group_place h1 h2]
  simp only [hm]

/-- The whole layer is the sum of the parts of the 32 devices. -/
theorem layer_eq_sum (h1 : 128 ∣ 1024) (h2 : 128 ∣ 32768) (X : Mat 512 1024) (Wq Wk Wv : Mat 1024 32768)
    (Wo : Mat 32768 1024) (i : Fin 512) (o : Fin 1024) :
    layer h2 X Wq Wk Wv Wo i o
      = ∑ c, layer h1 X (colsOf Wq c) (colsOf Wk c) (colsOf Wv c) (rowsOf Wo c) i o := by
  unfold layer mul
  rw [sum_place]
  refine Finset.sum_congr rfl fun c _ => Finset.sum_congr rfl fun e _ => ?_
  exact congrArg (· * Wo (place c e) o) (heads_place h1 h2 X Wq Wk Wv c i e)

end Cert.Attention

end
-- ==== Proof.PartIdeal.lean ====
/-
  What one device computes from its staged operands, read entry by entry over the extended reals: `partVal` is the
  attention layer of the device's own 1024 columns.
-/
module

public import proofs.«01_k».proof.Proof.Attention
public import proofs.«01_k».proof.Proof.ProgIdeal
public import Idealize.ShloMosaic.Lib.Pointwise
public import Idealize.ShloMosaic.Lib.Pipeline.Value

@[expose] public section

noncomputable section

namespace Cert.KernelIdealProof

open Idealize.ShloMosaic Idealize.SL.Sem Cert.KernelIdeal Cert.KernelIdeal.Gen Cert.Attention

/-- One head of a device, from its 128 columns of queries, keys and values. -/
def headVec (q k v : FVec Ideal S512x128 .bf16) : FVec Ideal S512x128 .bf16 :=
  have s : FVec Ideal S512x512 .f32 := mulf (matmul dot_S512x128_S512x128_S512x512_1_1_0_0_n_n none q k (constant S512x512 .f32 0x00000000#32))
    (broadcast S512x512 (Named.named κ "scale" 0x3DB504F3#32))
  have m : FVec Ideal S512 .f32 := multiReduction .maximumf [1] S512 s 0xFF800000#32 reduces_S512x512_S512 (.inl rfl) rfl
  have p : FVec Ideal S512x512 .f32 := exp (subf s (broadcastTo S512x512 (shapeCast S512x1 m shapeCasts_S512_S512x1) broadcasts_S512x1_S512x512))
  have l : FVec Ideal S512 .f32 := multiReduction .add [1] S512 p 0x00000000#32 reduces_S512x512_S512 (.inl rfl) rfl
  truncf .bf16 (divf (matmul dot_S512x512_S512x128_S512x128_1_0_0_1_n_n none (truncf .bf16 p bitsLt_bf16_f32) v (constant S512x128 .f32 0x00000000#32))
    (broadcastTo S512x128 (shapeCast S512x1 l shapeCasts_S512_S512x1) broadcasts_S512x1_S512x128)) bitsLt_bf16_f32

/-- The columns of a head lie inside the 1024. -/
theorem slices_cols (h : Fin 8) : S512x1024.Slices ![0, 128 * h.val] S512x128 := by revert h; decide

/-- The 128 columns of head `h`. -/
def cut (y : FVec Ideal S512x1024 .bf16) (h : Fin 8) : FVec Ideal S512x128 .bf16 :=
  extractStridedSlice S512x128 ![0, 128 * h.val] y (slices_cols h)

/-- The kernel's named constant is the scale. -/
theorem kappa_scale : Named.named (F := Ideal) κ "scale" (φ := .f32) 0x3DB504F3#32 = scale :=
  IdealRules.named_const.ideal_named_scalar _ _ _ _ rfl

/-- The pattern of minus infinity denotes the least extended real. -/
theorem ofBits_negInf : Ideal.ofBits .f32 0xFF800000#32 = ⊥ := by simp [Ideal.ofBits, Ideal.ieee]

/-- A head's entry is that of `head`. -/
theorem headVec_apply (q k v : FVec Ideal S512x128 .bf16) (i : Fin 512) (d : Fin 128) :
    headVec q k v (ix2 i d) = head (fun i d => q (ix2 i d)) (fun i d => k (ix2 i d)) (fun i d => v (ix2 i d)) i d := by
  pointwise [headVec]
  rw [kappa_scale, ofBits_negInf]
  rfl

/-- Eight pieces of 128 columns make 1024. -/
theorem concats (f : Fin 8 → FVec Ideal S512x128 .bf16) :
    Shape.Concatenates ((List.ofFn fun h : Fin 8 => (⟨S512x128, f h⟩ : (s : Shape) × (s.Idx → Ideal .bf16))).map (·.1)) S512x1024 1 := by
  show Shape.Concatenates (List.replicate 8 S512x128) S512x1024 1
  decide

/-- The eight heads of a device side by side. -/
def headsVec (q k v : FVec Ideal S512x1024 .bf16) : FVec Ideal S512x1024 .bf16 :=
  concatenate S512x1024 1 (List.ofFn fun h : Fin 8 => (⟨S512x128, headVec (cut q h) (cut k h) (cut v h)⟩ : (s : Shape) × (s.Idx → Ideal .bf16))) (concats _)

/-- A device's part, from its queries, keys and values. -/
def outVec (y : FVec Ideal S512x1024 .bf16) (wo : Vec Ideal S1024x1024 .f32) : FVec Ideal S512x1024 .bf16 :=
  shapeCast S512x1024 (truncf .bf16 (matmul dot_S512x1024_S1024x1024_S512x1024_1_0_0_1_n_n none y
    (truncf .bf16 (shapeCast S1024x1024 wo shapeCasts_S1024x1024_S1024x1024) bitsLt_bf16_f32) (constant S512x1024 .f32 0x00000000#32)) bitsLt_bf16_f32)
    shapeCasts_S512x1024_S512x1024

/-- The printed body computes the projections, the heads and the output projection. -/
theorem part_eq (x : Vec Ideal S1x512x1024 .f32) (wq wk wv wo : Vec Ideal S1024x1024 .f32) :
    partVal x wq wk wv wo = outVec (headsVec (k0_pay2 x wq) (k0_pay3 x wk) (k0_pay5 (k0_pay1 x) (k0_pay4 wv))) wo := by
  rfl

/-- A head's column, in the whole. -/
theorem cut_apply (y : FVec Ideal S512x1024 .bf16) (h : Fin 8) (i : Fin 512) (d : Fin 128) :
    cut y h (ix2 i d) = y (ix2 i ⟨128 * h.val + d.val, by omega⟩) := by
  pointwise [cut]

/-- The heads side by side, at an entry. -/
theorem headsVec_apply (h1 : 128 ∣ 1024) (q k v : FVec Ideal S512x1024 .bf16) (i : Fin 512) (e : Fin 1024) :
    headsVec q k v (ix2 i e) = heads h1 (fun i e => q (ix2 i e)) (fun i e => k (ix2 i e)) (fun i e => v (ix2 i e)) i e := by
  refine (concatenate_ofFn_apply (t := S512x1024) (s₁ := S512x128) 1 (fun h : Fin 8 => headVec (cut q h) (cut k h) (cut v h)) (concats _) rfl 128 rfl
    (ix2 i e) ⟨e.val / 128, by omega⟩ rfl (ix2 i ⟨e.val % 128, Nat.mod_lt _ (by norm_num)⟩) rfl ?_).trans ?_
  · intro b hb
    fin_cases b
    · rfl
    · exact absurd rfl hb
  · rw [headVec_apply]
    simp only [cut_apply]
    rfl

/-- The queries are the product of the input and the query weights. -/
theorem pay2_apply (x : Vec Ideal S1x512x1024 .f32) (w : Vec Ideal S1024x1024 .f32) (i : Fin 512) (e : Fin 1024) :
    k0_pay2 x w (ix2 i e) = mul (fun i k => x (ix3 0 i k)) (fun k e => w (ix2 k e)) i e := by
  pointwise [k0_pay2, k0_pay1]
  rfl

/-- The keys, likewise. -/
theorem pay3_apply (x : Vec Ideal S1x512x1024 .f32) (w : Vec Ideal S1024x1024 .f32) (i : Fin 512) (e : Fin 1024) :
    k0_pay3 x w (ix2 i e) = mul (fun i k => x (ix3 0 i k)) (fun k e => w (ix2 k e)) i e := by
  pointwise [k0_pay3, k0_pay1]
  rfl

/-- The values, likewise. -/
theorem pay5_apply (x : Vec Ideal S1x512x1024 .f32) (w : Vec Ideal S1024x1024 .f32) (i : Fin 512) (e : Fin 1024) :
    k0_pay5 (k0_pay1 x) (k0_pay4 w) (ix2 i e) = mul (fun i k => x (ix3 0 i k)) (fun k e => w (ix2 k e)) i e := by
  pointwise [k0_pay5, k0_pay4, k0_pay1]
  rfl

/-- The output projection is a product. -/
theorem outVec_apply (y : FVec Ideal S512x1024 .bf16) (w : Vec Ideal S1024x1024 .f32) (i : Fin 512) (o : Fin 1024) :
    outVec y w (ix2 i o) = mul (fun i e => y (ix2 i e)) (fun e o => w (ix2 e o)) i o := by
  pointwise [outVec]
  rfl

/-- A device's part is the layer with its own columns of the weights. -/
theorem part_apply (h1 : 128 ∣ 1024) (x : Vec Ideal S1x512x1024 .f32) (wq wk wv wo : Vec Ideal S1024x1024 .f32) (i : Fin 512) (o : Fin 1024) :
    partVal x wq wk wv wo (ix2 i o) = layer h1 (fun i k => x (ix3 0 i k)) (fun k e => wq (ix2 k e)) (fun k e => wk (ix2 k e))
      (fun k e => wv (ix2 k e)) (fun e o => wo (ix2 e o)) i o := by
  rw [part_eq, outVec_apply]
  simp only [headsVec_apply h1, pay2_apply, pay3_apply, pay5_apply]
  rfl

end Cert.KernelIdealProof
end
-- ==== Proof.SumIdeal.lean ====
/-
  What every device's result array holds at the end, entry by entry over the extended reals: the sum of the 32 devices'
  partial products.
-/
module

public import proofs.«01_k».proof.Proof.RunIdeal
public import proofs.«01_k».proof.Proof.PartIdeal
public import Idealize.ShloMosaic.Lib.Pointwise
public import Idealize.ShloMosaic.Lib.Pipeline.ValueKit.Geometry

@[expose] public section

noncomputable section

namespace Cert.KernelIdealProof

open Idealize.ShloMosaic Idealize.ShloMosaic.TcCoe Idealize.SL.Sem Cert.KernelIdeal Cert.KernelIdeal.Gen Cert.Attention
open Idealize.ShloMosaic.Pipeline (Dat Cfg Window)

/-- The rows that a device sends are the sums of its slots. -/
theorem pay21_apply (y : FVec Ideal S32x16x1024 .bf16) (r : Fin 16) (o : Fin 1024) :
    k0_pay21 y (ix2 r o) = ∑ s : Fin 32, y (ix3 s r o) := by
  pointwise [k0_pay21]

/-- The result lays the slots out as rows. -/
theorem pay23_apply (y : FVec Ideal S32x16x1024 .bf16) (i : Fin 512) (o : Fin 1024) :
    k0_pay23 (F := Ideal) y (ix3 0 i o) = (y : S32x16x1024.Idx → EReal) (ix3 ⟨i.val / 16, by omega⟩ ⟨i.val % 16, Nat.mod_lt _ (by norm_num)⟩ o) := by
  pointwise [k0_pay23]
  trace_state

/-- Every entry of the result is the sum of the devices' entries. -/
theorem out_apply (P : Dev nD → S512x1024.Idx → Elt Ideal .bf16) (i : Fin 512) (o : Fin 1024) :
    OUT P (ix3 0 i o) = ∑ s : Fin 32, (P s (ix2 i o) : EReal) := by
  refine (pay23_apply (AG P) i o).trans ((pay21_apply (RS P (⟨i.val / 16, by omega⟩ : Fin 32)) ⟨i.val % 16, Nat.mod_lt _ (by norm_num)⟩ o).trans ?_)
  refine Finset.sum_congr rfl fun s _ => congrArg (P s) ?_
  funext d
  fin_cases d
  · exact Fin.ext (Nat.div_add_mod i.val 16)
  · rfl

section
variable (m : (ℓ : Loc nD τ sig) → Buf (Elt Ideal) ℓ) (c : Dev nD)

/-- The input is staged whole, -/
theorem inX_eq : inX m c = m ((c : Thread nD τ).loc main_arg0) := by
  funext i
  refine congrArg (m ((c : Thread nD τ).loc main_arg0)) (funext fun a => Fin.ext ?_)
  exact (win0_0.rect_emb_val_of_index_zero (0 : Fin 1) a rfl i)
/-- and so are the query weights, -/
theorem inQ_eq : inQ m c = m ((c : Thread nD τ).loc main_arg1) :=
  funext fun i => congrArg (m ((c : Thread nD τ).loc main_arg1)) (funext fun a => Fin.ext (win0_1.rect_emb_val_of_index_zero (0 : Fin 1) a rfl i))
/-- the output weights, -/
theorem inO_eq : inO m c = m ((c : Thread nD τ).loc main_arg4) :=
  funext fun i => congrArg (m ((c : Thread nD τ).loc main_arg4)) (funext fun a => Fin.ext (win0_2.rect_emb_val_of_index_zero (0 : Fin 1) a rfl i))
/-- the key weights, -/
theorem inK_eq : inK m c = m ((c : Thread nD τ).loc main_arg2) :=
  funext fun i => congrArg (m ((c : Thread nD τ).loc main_arg2)) (funext fun a => Fin.ext (win0_3.rect_emb_val_of_index_zero (0 : Fin 1) a rfl i))
/-- and the value weights. -/
theorem inV_eq : inV m c = m ((c : Thread nD τ).loc main_arg3) :=
  funext fun i => congrArg (m ((c : Thread nD τ).loc main_arg3)) (funext fun a => Fin.ext (win0_4.rect_emb_val_of_index_zero (0 : Fin 1) a rfl i))

/-- The result is written back once, whole. -/
theorem whole_out : win0_5.WholeAt t0_0 := by decide +kernel

/-- The result array ends holding what the body leaves in the staging buffer. -/
theorem arrAt_out (d : Dat τ (Elt Ideal) Unit ℕ UU ℕ cfg0 c) (G : S1x512x1024.Idx → Elt Ideal .f32)
    (h : d.after (5 : Fin 6) t0_0 = G) : d.arrAt (5 : Fin 6) cfg0.N = G := by
  refine d.arrAt_eq_of_after_last (5 : Fin 6) t0_0 whole_out G fun j => ?_
  blk_simp
  exact congrFun h j

/-- The body leaves `OUT` there. -/
theorem after_out : (dats m 0 c).after (5 : Fin 6) t0_0 = OUT (part m) := by
  unfold dats
  rfl

/-- The result array ends holding `OUT`. -/
theorem finalA_out : finalA m c 5 = OUT (part m) := arrAt_out c (dats m 0 c) _ (after_out m c)

/-- The result array's entries are sums, over the devices, of attention layers of their own columns. -/
theorem finalA_apply (h1 : 128 ∣ 1024) (i : Fin 512) (o : Fin 1024) :
    (finalA m c 5 : FVec Ideal S1x512x1024 .f32) (ix3 0 i o)
      = ∑ s : Fin 32, layer h1 (fun i k => (m (((s : Dev nD) : Thread nD τ).loc main_arg0) : FVec Ideal S1x512x1024 .f32) (ix3 0 i k))
          (fun k e => (m (((s : Dev nD) : Thread nD τ).loc main_arg1) : FVec Ideal S1024x1024 .f32) (ix2 k e))
          (fun k e => (m (((s : Dev nD) : Thread nD τ).loc main_arg2) : FVec Ideal S1024x1024 .f32) (ix2 k e))
          (fun k e => (m (((s : Dev nD) : Thread nD τ).loc main_arg3) : FVec Ideal S1024x1024 .f32) (ix2 k e))
          (fun e o => (m (((s : Dev nD) : Thread nD τ).loc main_arg4) : FVec Ideal S1024x1024 .f32) (ix2 e o)) i o := by
  refine (congrFun (finalA_out m c) (ix3 0 i o)).trans ((out_apply (part m) i o).trans (Finset.sum_congr rfl fun s _ => ?_))
  unfold part
  rw [inX_eq, inQ_eq, inK_eq, inV_eq, inO_eq]
  exact part_apply h1 _ _ _ _ _ i o

end

end Cert.KernelIdealProof

end
-- ==== Proof.WholeIdeal.lean ====
/-
  The reference's result, read entry by entry over the extended reals: it is the attention layer of all 32768 columns.
-/
module

public import proofs.«01_k».proof.Proof.Attention
public import proofs.«01_k».proof.Proof.Gen.ReferenceIdeal.Run
public import Idealize.ShloMosaic.Lib.Pointwise

@[expose] public section

noncomputable section

namespace Cert.ReferenceIdealProof

open Idealize.ShloMosaic Idealize.SL.Sem Cert.ReferenceIdeal Cert.ReferenceIdeal.Gen Cert.ReferenceIdeal.Value Cert.Attention

/-- Projections of the input, split by heads. -/
def projVec (x : FVec Ideal S1x512x1024 .f32) (w : FVec Ideal S1024x32768 .f32) : FVec Ideal S1x512x256x128 .f32 :=
  shapeCast _ (Host.dotGeneral dot_S1x512x1024_S1024x32768_S1x512x32768_2_0_01_1_n_n none x w) shapeCasts_S1x512x32768_S1x512x256x128

/-- The scaled scores of every head. -/
def scoreVec (q k : FVec Ideal S1x512x256x128 .f32) : FVec Ideal S1x256x512x512 .f32 :=
  Host.divf (Host.dotGeneral dot_S1x512x256x128_S1x512x256x128_S1x256x512x512_3_3_1_1_02_02 none q k)
    (broadcastInDim S1x256x512x512 ![] bcast_S_S1x256x512x512 (Host.sqrt (constant S_ .f32 0x43000000#32)))

/-- The running maximum before the first block of keys. -/
def startVec : FVec Ideal S1x256x512x1 .f32 := broadcastInDim S1x256x512x1 ![] bcast_S_S1x256x512x1 (constant S_ .f32 0xFF800000#32)

/-- The greatest score of every row. -/
def rowTopVec (s : FVec Ideal S1x256x512x512 .f32) : FVec Ideal S1x256x512 .f32 :=
  Host.reduce FloatOps.maximumf s (constant S_ .f32 0xFF800000#32) reducesTo_S1x256x512x512_S1x256x512_d3 h_S_

/-- The running maximum after a block of keys. -/
def raiseVec (r : FVec Ideal S1x256x512 .f32) : FVec Ideal S1x256x512x1 .f32 :=
  maximumf startVec (broadcastInDim S1x256x512x1 ![0, 1, 2] bcast_S1x256x512_S1x256x512x1_0_1_2 r)

/-- The running maximum after the only block of keys. -/
def topVec (s : FVec Ideal S1x256x512x512 .f32) : FVec Ideal S1x256x512x1 .f32 := raiseVec (rowTopVec s)

/-- The weights before they are divided by their sum. -/
def weightVec (s : FVec Ideal S1x256x512x512 .f32) : FVec Ideal S1x256x512x512 .f32 :=
  Host.exp (subf s (broadcastInDim S1x256x512x512 ![0, 1, 2, 3] bcast_S1x256x512x1_S1x256x512x512_0_1_2_3 (topVec s)))

/-- The factor by which the running sums are rescaled. -/
def alphaVec (s : FVec Ideal S1x256x512x512 .f32) : FVec Ideal S1x256x512x1 .f32 := Host.exp (subf startVec (topVec s))

/-- The sum of the weights of every row. -/
def totalVec (s : FVec Ideal S1x256x512x512 .f32) : FVec Ideal S1x256x512x1 .f32 :=
  addf (mulf (broadcastInDim S1x256x512x1 ![] bcast_S_S1x256x512x1 (constant S_ .f32 0x00000000#32)) (alphaVec s))
    (broadcastInDim S1x256x512x1 ![0, 1, 2] bcast_S1x256x512_S1x256x512x1_0_1_2
      (Host.reduceAdd (weightVec s) (constant S_ .f32 0x00000000#32) reducesTo_S1x256x512x512_S1x256x512_d3 h_S_))

/-- The weighted sum of the values. -/
def sumVec (s : FVec Ideal S1x256x512x512 .f32) (v : FVec Ideal S1x512x256x128 .f32) : FVec Ideal S1x512x256x128 .f32 :=
  addf (mulf (broadcastInDim S1x512x256x128 ![] bcast_S_S1x512x256x128 (constant S_ .f32 0x00000000#32))
      (broadcastInDim S1x512x256x128 ![0, 1, 2, 3] bcast_S1x512x256x1_S1x512x256x128_0_1_2_3
        (transpose S1x512x256x1 [0, 2, 1, 3] (alphaVec s) transposes_S1x256x512x1_S1x512x256x1_0_2_1_3)))
    (transpose S1x512x256x128 [0, 3, 1, 2]
      (Host.dotGeneral dot_S1x512x256x128_S1x256x512x512_S1x256x128x512_1_3_3_2_02_01 none v (weightVec s))
      transposes_S1x256x128x512_S1x512x256x128_0_3_1_2)

/-- All heads. -/
def meanVec (s : FVec Ideal S1x256x512x512 .f32) (v : FVec Ideal S1x512x256x128 .f32) : FVec Ideal S1x512x256x128 .f32 :=
  Host.divf (sumVec s v) (broadcastInDim S1x512x256x128 ![0, 1, 2, 3] bcast_S1x512x256x1_S1x512x256x128_0_1_2_3
    (transpose S1x512x256x1 [0, 2, 1, 3] (totalVec s) transposes_S1x256x512x1_S1x512x256x1_0_2_1_3))

/-- The output projection of all heads side by side. -/
def outVec (y : FVec Ideal S1x512x256x128 .f32) (w : FVec Ideal S32768x1024 .f32) : FVec Ideal S1x512x1024 .f32 :=
  Host.dotGeneral dot_S1x512x32768_S32768x1024_S1x512x1024_2_0_01_1_n_n none (shapeCast _ y shapeCasts_S1x512x256x128_S1x512x32768) w

set_option maxRecDepth 8192 in
/-- The reference's result in these stages. -/
theorem res_eq (m : (ℓ : Loc nD τ sig) → Buf (Elt Ideal) ℓ) (c : Dev nD) :
    res_out0 m c = outVec (meanVec (scoreVec (projVec (m ((c.tc : Thread nD τ).loc main_arg0)) (m ((c.tc : Thread nD τ).loc main_arg1)))
        (projVec (m ((c.tc : Thread nD τ).loc main_arg0)) (m ((c.tc : Thread nD τ).loc main_arg2))))
      (projVec (m ((c.tc : Thread nD τ).loc main_arg0)) (m ((c.tc : Thread nD τ).loc main_arg3)))) (m ((c.tc : Thread nD τ).loc main_arg4)) :=
  rfl

/-- A projection is the product of the input and the weights. -/
theorem projVec_apply (x : FVec Ideal S1x512x1024 .f32) (w : FVec Ideal S1024x32768 .f32) (i : Fin 512) (h : Fin 256) (d : Fin 128) :
    projVec x w (ix4 0 i h d) = mul (fun i k => x (ix3 0 i k)) (fun k e => w (ix2 k e)) i ⟨128 * h.val + d.val, by omega⟩ := by
  pointwise [projVec]
  have e : (⟨h.val * 128 + d.val, by omega⟩ : Fin 32768) = ⟨128 * h.val + d.val, by omega⟩ := Fin.ext (by show _ * _ + _ = _ * _ + _; omega)
  rw [e]
  rfl

/-- The pattern of minus infinity denotes the least extended real. -/
theorem ofBits_negInf : Ideal.ofBits .f32 0xFF800000#32 = ⊥ := by simp [Ideal.ofBits, Ideal.ieee]

/-- The pattern of the head's width denotes 128. -/
theorem ofBits_width : Ideal.ofBits .f32 0x43000000#32 = ((128 : ℝ) : EReal) := by
  simp [Ideal.ofBits, Ideal.ieee, -EReal.coe_mul]
  norm_num

/-- Division by `√128` is multiplication by the scale. -/
theorem div_width (x : EReal) : Ideal.div x (Ideal.sqrt (Ideal.ofBits .f32 0x43000000#32)) = x * scale := by
  rw [ofBits_width, Ideal.sqrt_coe, if_neg (by norm_num), Ideal.div_coe (by positivity), one_div]
  rfl

/-- The scores of a head. -/
theorem scoreVec_apply (q k : FVec Ideal S1x512x256x128 .f32) (h : Fin 256) (i j : Fin 512) :
    scoreVec q k (ix4 0 h i j) = score (fun i d => q (ix4 0 i h d)) (fun i d => k (ix4 0 i h d)) i j := by
  pointwise [scoreVec]
  exact div_width _

/-- The greatest score of a row is the fold of `max`. -/
theorem rowTopVec_apply (s : FVec Ideal S1x256x512x512 .f32) (h : Fin 256) (i : Fin 512) :
    rowTopVec s (ix3 0 h i) = Finset.univ.fold max ⊥ (fun j => s (ix4 0 h i j)) := by
  pointwise [rowTopVec]
  rw [ofBits_negInf]

/-- Nothing is below the start of the running maximum. -/
theorem raiseVec_apply (r : FVec Ideal S1x256x512 .f32) (h : Fin 256) (i : Fin 512) :
    raiseVec r (ix4 0 h i 0) = r (ix3 0 h i) := by
  pointwise [raiseVec, startVec]
  rw [ofBits_negInf, max_eq_right bot_le]

/-- The running maximum is the greatest score. -/
theorem topVec_apply (s : FVec Ideal S1x256x512x512 .f32) (h : Fin 256) (i : Fin 512) :
    topVec s (ix4 0 h i 0) = Finset.univ.fold max ⊥ (fun j => s (ix4 0 h i j)) :=
  (raiseVec_apply (rowTopVec s) h i).trans (rowTopVec_apply s h i)

/-- The weights of a head. -/
theorem weightVec_apply (s : FVec Ideal S1x256x512x512 .f32) (h : Fin 256) (i j : Fin 512) :
    weightVec s (ix4 0 h i j) = Ideal.exp (s (ix4 0 h i j) - topVec s (ix4 0 h i 0)) := by
  pointwise [weightVec]

/-- The sum of a row's weights; what it rescales is zero. -/
theorem totalVec_apply (s : FVec Ideal S1x256x512x512 .f32) (h : Fin 256) (i : Fin 512) :
    totalVec s (ix4 0 h i 0) = ∑ j, weightVec s (ix4 0 h i j) := by
  pointwise [totalVec]
  rw [zero_mul, zero_add]

/-- The weighted sum of a head's values; what it rescales is zero. -/
theorem sumVec_apply (s : FVec Ideal S1x256x512x512 .f32) (v : FVec Ideal S1x512x256x128 .f32) (i : Fin 512) (h : Fin 256) (d : Fin 128) :
    sumVec s v (ix4 0 i h d) = ∑ j, weightVec s (ix4 0 h i j) * v (ix4 0 j h d) := by
  pointwise [sumVec]
  rw [zero_mul, zero_add]
  exact Finset.sum_congr rfl fun j _ => mul_comm _ _

/-- A head's weighted sum over the sum of its weights. -/
theorem meanVec_apply (s : FVec Ideal S1x256x512x512 .f32) (v : FVec Ideal S1x512x256x128 .f32) (i : Fin 512) (h : Fin 256) (d : Fin 128) :
    meanVec s v (ix4 0 i h d) = Ideal.div (sumVec s v (ix4 0 i h d)) (totalVec s (ix4 0 h i 0)) := by
  pointwise [meanVec]

/-- A head's entry is that of `head`. -/
theorem meanVec_head (q k v : FVec Ideal S1x512x256x128 .f32) (i : Fin 512) (h : Fin 256) (d : Fin 128) :
    meanVec (scoreVec q k) v (ix4 0 i h d)
      = head (fun i d => q (ix4 0 i h d)) (fun i d => k (ix4 0 i h d)) (fun i d => v (ix4 0 i h d)) i d := by
  rw [meanVec_apply, sumVec_apply, totalVec_apply]
  simp only [weightVec_apply, topVec_apply, scoreVec_apply]
  rfl

/-- The output projection is a product over the columns of all heads. -/
theorem outVec_apply (y : FVec Ideal S1x512x256x128 .f32) (w : FVec Ideal S32768x1024 .f32) (i : Fin 512) (o : Fin 1024) :
    outVec y w (ix3 0 i o) = mul (fun i (e : Fin 32768) => y (ix4 0 i ⟨e.val / 128, by omega⟩ ⟨e.val % 128, Nat.mod_lt _ (by norm_num)⟩)) (fun e o => w (ix2 e o)) i o := by
  pointwise [outVec]
  rfl

/-- The reference's result is the attention layer. -/
theorem res_apply (h2 : 128 ∣ 32768) (m : (ℓ : Loc nD τ sig) → Buf (Elt Ideal) ℓ) (c : Dev nD) (i : Fin 512) (o : Fin 1024) :
    (res_out0 m c : FVec Ideal S1x512x1024 .f32) (ix3 0 i o)
      = layer h2 (fun i k => (m ((c.tc : Thread nD τ).loc main_arg0) : FVec Ideal S1x512x1024 .f32) (ix3 0 i k))
          (fun k e => (m ((c.tc : Thread nD τ).loc main_arg1) : FVec Ideal S1024x32768 .f32) (ix2 k e))
          (fun k e => (m ((c.tc : Thread nD τ).loc main_arg2) : FVec Ideal S1024x32768 .f32) (ix2 k e))
          (fun k e => (m ((c.tc : Thread nD τ).loc main_arg3) : FVec Ideal S1024x32768 .f32) (ix2 k e))
          (fun e o => (m ((c.tc : Thread nD τ).loc main_arg4) : FVec Ideal S32768x1024 .f32) (ix2 e o)) i o := by
  refine (congrFun (res_eq m c) (ix3 0 i o)).trans ?_
  rw [outVec_apply]
  simp only [meanVec_head, projVec_apply]
  rfl

end Cert.ReferenceIdealProof

end
-- ==== Proof.EqualIdeal.lean ====
/-
  The equation of the two programs' results: the sum of the devices' layers over their own columns is the reference's layer
  over all columns.
-/
module

public import proofs.«01_k».proof.Proof.SumIdeal
public import proofs.«01_k».proof.Proof.WholeIdeal
public import Idealize.ShloMosaic.Lib.Layout

@[expose] public section

noncomputable section

namespace Cert.EqualIdeal

open Idealize.ShloMosaic Idealize.ShloMosaic.TcCoe Idealize.SL.Sem Cert.Attention

/-- A device's columns, cut out of the whole array. -/
theorem block_cols (W : (⟨2, ![1024, 32768]⟩ : Shape).Idx → EReal) (c : Fin 32) (k e : Fin 1024) :
    Layout.block ⟨2, ![1024, 1024]⟩ ⟨2, ![1024, 32768]⟩ 1 32 c W (by decide) (ix2 k e) = colsOf (fun k E => W (ix2 k E)) c k e := by
  refine congrArg W (funext fun d => ?_)
  fin_cases d
  · rfl
  · exact Fin.ext (congrArg (· + e.val) (Nat.mul_comm c.val 1024))

/-- A device's rows, cut out of the whole array. -/
theorem block_rows (W : (⟨2, ![32768, 1024]⟩ : Shape).Idx → EReal) (c : Fin 32) (e o : Fin 1024) :
    Layout.block ⟨2, ![1024, 1024]⟩ ⟨2, ![32768, 1024]⟩ 0 32 c W (by decide) (ix2 e o) = rowsOf (fun E o => W (ix2 E o)) c e o := by
  refine congrArg W (funext fun d => ?_)
  fin_cases d
  · exact Fin.ext (congrArg (· + e.val) (Nat.mul_comm c.val 1024))
  · rfl

/-- A head's width divides a device's columns, -/
theorem dvd_own : 128 ∣ 1024 := ⟨8, rfl⟩
/-- and all columns. -/
theorem dvd_all : 128 ∣ 32768 := ⟨256, rfl⟩

/-- Every device's result array ends holding the reference's result, where the devices' operands are the blocks of the
    reference's. -/
theorem results_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : ∀ c : Dev KernelIdeal.nD,
      m ((c.tc : Thread KernelIdeal.nD KernelIdeal.τ).loc KernelIdeal.main_arg0) = m' (((0 : Dev ReferenceIdeal.nD).tc : Thread ReferenceIdeal.nD ReferenceIdeal.τ).loc ReferenceIdeal.main_arg0)
      ∧ m ((c.tc : Thread KernelIdeal.nD KernelIdeal.τ).loc KernelIdeal.main_arg1) = Layout.block ⟨2, ![1024, 1024]⟩ ⟨2, ![1024, 32768]⟩ 1 32 c (m' (((0 : Dev ReferenceIdeal.nD).tc : Thread ReferenceIdeal.nD ReferenceIdeal.τ).loc ReferenceIdeal.main_arg1))
      ∧ m ((c.tc : Thread KernelIdeal.nD KernelIdeal.τ).loc KernelIdeal.main_arg2) = Layout.block ⟨2, ![1024, 1024]⟩ ⟨2, ![1024, 32768]⟩ 1 32 c (m' (((0 : Dev ReferenceIdeal.nD).tc : Thread ReferenceIdeal.nD ReferenceIdeal.τ).loc ReferenceIdeal.main_arg2))
      ∧ m ((c.tc : Thread KernelIdeal.nD KernelIdeal.τ).loc KernelIdeal.main_arg3) = Layout.block ⟨2, ![1024, 1024]⟩ ⟨2, ![1024, 32768]⟩ 1 32 c (m' (((0 : Dev ReferenceIdeal.nD).tc : Thread ReferenceIdeal.nD ReferenceIdeal.τ).loc ReferenceIdeal.main_arg3))
      ∧ m ((c.tc : Thread KernelIdeal.nD KernelIdeal.τ).loc KernelIdeal.main_arg4) = Layout.block ⟨2, ![1024, 1024]⟩ ⟨2, ![32768, 1024]⟩ 0 32 c (m' (((0 : Dev ReferenceIdeal.nD).tc : Thread ReferenceIdeal.nD ReferenceIdeal.τ).loc ReferenceIdeal.main_arg4))) :
    (KernelIdealProof.finalA m c 5 : (⟨3, ![1, 512, 1024]⟩ : Shape).Idx → EReal) = ReferenceIdeal.Value.res_out0 m' 0 := by
  funext j
  obtain ⟨i, o, rfl⟩ : ∃ (i : Fin 512) (o : Fin 1024), j = ix3 0 i o :=
    ⟨j 1, j 2, (eq_ix3 j).trans (congrArg (fun z => ix3 z _ _) (Subsingleton.elim _ _))⟩
  refine @Eq.trans EReal _ _ _ (KernelIdealProof.finalA_apply m c dvd_own i o) (@Eq.trans EReal _ _ _ ?_
    ((ReferenceIdealProof.res_apply dvd_all m' 0 i o).trans (layer_eq_sum dvd_own dvd_all _ _ _ _ _ i o)).symm)
  refine Finset.sum_congr rfl fun s _ => ?_
  obtain ⟨h0, h1, h2, h3, h4⟩ := h s
  congr 1
  · funext i k
    exact congrFun h0 (ix3 0 i k)
  · funext k e
    exact (congrFun h1 (ix2 k e)).trans (block_cols _ s k e)
  · funext k e
    exact (congrFun h2 (ix2 k e)).trans (block_cols _ s k e)
  · funext k e
    exact (congrFun h3 (ix2 k e)).trans (block_cols _ s k e)
  · funext e o
    exact (congrFun h4 (ix2 e o)).trans (block_rows _ s e o)

end Cert.EqualIdeal

end
-- ==== Proof.lean ====
/-
  The proof of `Cert.Claim`: all three programs end with their arguments as they began and every semaphore at zero; the
  kernel's idealization differs from it in the value of a named constant alone; and the idealized kernel's results on every
  device are the idealized reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RunKernel
public import proofs.«01_k».proof.Proof.RunIdeal
public import proofs.«01_k».proof.Proof.EqualIdeal
public import Idealize.ShloMosaic.Adequacy
public import Idealize.ShloMosaic.Init

@[expose] public section

noncomputable section

namespace Cert.Proof

open Idealize.ShloMosaic Idealize.SL.Sem Cert.Kernel

/-- Every claim, from the two launches, the reference's run and the equation of the results. -/
theorem claim : Cert.Claim := ⟨Cert.Kernel.Gen.facts, Cert.KernelIdeal.Gen.facts, Cert.ReferenceIdeal.Gen.facts,
  fun m g _ => (θ_run _ _ _).mono (fun r h => ⟨fun c => Cert.KernelProof.final_args m c r h.1, h.2⟩)
    (Cert.KernelProof.run_main m g),
  fun m g _ => (θ_run _ _ _).mono (fun r h => ⟨fun c => Cert.KernelIdealProof.final_args m c r h.1, h.2⟩)
    (Cert.KernelIdealProof.run_main m g),
  fun m g _ => (θ_run _ _ _).mono (fun r h => ⟨fun c => (h c).2,
      Idealize.ShloMosaic.sem_eq_zero_of_no_sems (by decide) r.2⟩)
    (Cert.ReferenceIdeal.Value.run m g),
  IdealRules.named_const.statement Cert.KernelIdeal.κ "scale" .f32 0x3DB504F3#32 (((Real.sqrt 128)⁻¹ : ℝ) : EReal) rfl,
  fun m g m' g' _ hargs => ⟨Cert.ReferenceIdeal.Value.res_out0 m' 0,
    (θ_run _ _ _).mono (fun r h c => ⟨(h.1 c 5).trans (Cert.EqualIdeal.results_eq m m' c hargs),
      Cert.KernelIdealProof.final_args m c r h.1⟩) (Cert.KernelIdealProof.run_main m g),
    (θ_run _ _ _).mono (fun r h => h 0) (Cert.ReferenceIdeal.Value.run m' g')⟩⟩

end Cert.Proof

end
